-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S_ : Shape := ⟨0, ![]⟩
abbrev S2x128x4x64 : Shape := ⟨4, ![2, 128, 4, 64]⟩
abbrev S2x4x128x64 : Shape := ⟨4, ![2, 4, 128, 64]⟩
abbrev S2x128x256 : Shape := ⟨3, ![2, 128, 256]⟩
abbrev S4x2x128x512 : Shape := ⟨4, ![4, 2, 128, 512]⟩
abbrev S4x2 : Shape := ⟨2, ![4, 2]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x1x128x64 : Shape := ⟨4, ![1, 1, 128, 64]⟩
abbrev S128 : Shape := ⟨1, ![128]⟩
abbrev S128x1 : Shape := ⟨2, ![128, 1]⟩
abbrev S1x128x64 : Shape := ⟨3, ![1, 128, 64]⟩
abbrev S1x128x256 : Shape := ⟨3, ![1, 128, 256]⟩
abbrev S1x1x128x512 : Shape := ⟨4, ![1, 1, 128, 512]⟩
abbrev S1x1 : Shape := ⟨2, ![1, 1]⟩

abbrev nBuf : Space → Nat
  | .hbm => 36
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x64x64, .bf16⟩
  | .hbm, ⟨3, _⟩ => ⟨S2x128x64x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .bf16⟩
  | .hbm, ⟨33, _⟩ => ⟨S2x4x128x64, .bf16⟩
  | .hbm, ⟨34, _⟩ => ⟨S2x4x128x64, .bf16⟩
  | .hbm, ⟨35, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x4x128x64, .bf16⟩
  | .local _ .vmem, ⟨3, _⟩ => ⟨S2x4x128x64, .bf16⟩
  | .local _ .vmem, ⟨4, _⟩ => ⟨S256x512, .bf16⟩
  | .local _ .vmem, ⟨5, _⟩ => ⟨S2x128x512, .bf16⟩
  | .local _ .vmem, ⟨6, _⟩ => ⟨S2x128x256, .bf16⟩
  | .local _ .vmem, ⟨7, _⟩ => ⟨S2x128x512, .f32⟩
  | .local _ .vmem, ⟨8, _⟩ => ⟨S4x2x128x512, .bf16⟩
  | .local _ .vmem, ⟨9, _⟩ => ⟨S4x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_4 : BitVec 32 := 1#32
  let v10 : BitVec 32 := Scalar.muli v4 c1_i32_4
  let v11 : BitVec 32 := Scalar.addi c0_i32_5 v10
  v11.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_7 : BitVec 32 := 1#32
  let v12 : BitVec 32 := Scalar.muli v5 c1_i32_7
  let v13 : BitVec 32 := Scalar.addi c0_i32_8 v12
  v13.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_10 : BitVec 32 := 1#32
  let v14 : BitVec 32 := Scalar.muli v6 c1_i32_10
  let v15 : BitVec 32 := Scalar.addi c0_i32_11 v14
  v15.toNat
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_125 : BitVec 32 := 1#32
  let v219 : BitVec 32 := Scalar.muli v3 c1_i32_125
  let v220 : BitVec 32 := Scalar.addi c0_i32_126 v219
  v220.toNat
def k0_dev6 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_222 : BitVec 32 := 1#32
  let v343 : BitVec 32 := Scalar.muli v6 c1_i32_222
  let v344 : BitVec 32 := Scalar.addi c0_i32_223 v343
  v344.toNat
def k0_dev7 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_264 : BitVec 32 := 1#32
  let v374 : BitVec 32 := Scalar.muli v4 c1_i32_264
  let v375 : BitVec 32 := Scalar.addi c0_i32_265 v374
  v375.toNat
def k0_dev8 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_306 : BitVec 32 := 1#32
  let v405 : BitVec 32 := Scalar.muli v5 c1_i32_306
  let v406 : BitVec 32 := Scalar.addi c0_i32_307 v405
  v406.toNat
def k0_dev9 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v5 : BitVec 32 := Scalar.xori v2 c4_i32
  let c1_i32_348 : BitVec 32 := 1#32
  let v436 : BitVec 32 := Scalar.muli v5 c1_i32_348
  let v437 : BitVec 32 := Scalar.addi c0_i32_349 v436
  v437.toNat
def k0_dev10 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.xori v2 c2_i32
  let c1_i32_390 : BitVec 32 := 1#32
  let v467 : BitVec 32 := Scalar.muli v4 c1_i32_390
  let v468 : BitVec 32 := Scalar.addi c0_i32_391 v467
  v468.toNat
def k0_dev11 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v6 : BitVec 32 := Scalar.xori v2 c8_i32
  let c1_i32_431 : BitVec 32 := 1#32
  let v498 : BitVec 32 := Scalar.muli v6 c1_i32_431
  let v499 : BitVec 32 := Scalar.addi c0_i32_432 v498
  v499.toNat
def k0_dev12 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_473 : BitVec 32 := 1#32
  let v529 : BitVec 32 := Scalar.muli v3 c1_i32_473
  let v530 : BitVec 32 := Scalar.addi c0_i32_474 v529
  v530.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x64x128x128 : Shape := ⟨4, ![2, 64, 128, 128]⟩
abbrev S1x1x128x128 : Shape := ⟨4, ![1, 1, 128, 128]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 143
  | .vmem => 0
  | .smem => 0
  | _ => 0

abbrev hbmTy0_0 (i : Nat) : BufTy := match i % 128 with
  | 0 => ⟨S2x128x512, .bf16⟩
  | 1 => ⟨S512x4096, .bf16⟩
  | 2 => ⟨S2x128x64x64, .bf16⟩
  | 3 => ⟨S2x128x64x64, .bf16⟩
  | 4 => ⟨S4096x512, .bf16⟩
  | 5 => ⟨S2x128x512, .f32⟩
  | 6 => ⟨S512x4096, .f32⟩
  | 7 => ⟨S2x128x64x64, .f32⟩
  | 8 => ⟨S2x128x64x64, .f32⟩
  | 9 => ⟨S4096x512, .f32⟩
  | 10 => ⟨S2x128x4096, .f32⟩
  | 11 => ⟨S2x128x64x64, .f32⟩
  | 12 => ⟨S128, .i32⟩
  | 13 => ⟨S_, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S128, .i32⟩
  | 22 => ⟨S128, .i32⟩
  | 23 => ⟨S_, .i32⟩
  | 24 => ⟨S128, .i32⟩
  | 25 => ⟨S128, .i1⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S128, .i32⟩
  | 33 => ⟨S_, .i32⟩
  | 34 => ⟨S_, .i32⟩
  | 35 => ⟨S128, .i32⟩
  | 36 => ⟨S128, .i32⟩
  | 37 => ⟨S128, .i32⟩
  | 38 => ⟨S_, .i32⟩
  | 39 => ⟨S128, .i32⟩
  | 40 => ⟨S128, .i1⟩
  | 41 => ⟨S128, .i32⟩
  | 42 => ⟨S128, .i32⟩
  | 43 => ⟨S_, .i32⟩
  | 44 => ⟨S128, .i32⟩
  | 45 => ⟨S128, .i1⟩
  | 46 => ⟨S128, .i1⟩
  | 47 => ⟨S_, .i32⟩
  | 48 => ⟨S128, .i32⟩
  | 49 => ⟨S128, .i32⟩
  | 50 => ⟨S128, .i32⟩
  | 51 => ⟨S1x128, .i32⟩
  | 52 => ⟨S128x128, .i32⟩
  | 53 => ⟨S128x128, .i32⟩
  | 54 => ⟨S128x128, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x128, .i32⟩
  | 62 => ⟨S1x128, .i32⟩
  | 63 => ⟨S_, .i32⟩
  | 64 => ⟨S1x128, .i32⟩
  | 65 => ⟨S1x128, .i1⟩
  | 66 => ⟨S_, .i32⟩
  | 67 => ⟨S1x128, .i32⟩
  | 68 => ⟨S1x128, .i1⟩
  | 69 => ⟨S_, .i32⟩
  | 70 => ⟨S_, .i1⟩
  | 71 => ⟨S1x128, .i1⟩
  | 72 => ⟨S1x128, .i1⟩
  | 73 => ⟨S1x128, .i1⟩
  | 74 => ⟨S1x128, .i32⟩
  | 75 => ⟨S1x128, .i32⟩
  | 76 => ⟨S1x128, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S_, .i32⟩
  | 89 => ⟨S128x1, .i32⟩
  | 90 => ⟨S128x1, .i1⟩
  | 91 => ⟨S_, .i32⟩
  | 92 => ⟨S_, .i1⟩
  | 93 => ⟨S128x1, .i1⟩
  | 94 => ⟨S128x1, .i1⟩
  | 95 => ⟨S128x1, .i1⟩
  | 96 => ⟨S128x1, .i32⟩
  | 97 => ⟨S128x1, .i32⟩
  | 98 => ⟨S128x1, .i32⟩
  | 99 => ⟨S128x128, .i32⟩
  | 100 => ⟨S128x128, .i32⟩
  | 101 => ⟨S128x128, .i1⟩
  | 102 => ⟨S128x128, .i1⟩
  | 103 => ⟨S2x64x128x128, .f32⟩
  | 104 => ⟨S_, .f32⟩
  | 105 => ⟨S2x64x128x128, .f32⟩
  | 106 => ⟨S2x64x128x128, .f32⟩
  | 107 => ⟨S1x1x128x128, .i1⟩
  | 108 => ⟨S_, .f32⟩
  | 109 => ⟨S_, .f32⟩
  | 110 => ⟨S2x64x128x128, .i1⟩
  | 111 => ⟨S2x64x128x128, .f32⟩
  | 112 => ⟨S2x64x128x128, .f32⟩
  | 113 => ⟨S_, .f32⟩
  | 114 => ⟨S2x64x128, .f32⟩
  | 115 => ⟨S2x64x128x1, .f32⟩
  | 116 => ⟨S2x64x128x128, .f32⟩
  | 117 => ⟨S2x64x128x128, .f32⟩
  | 118 => ⟨S2x64x128x128, .f32⟩
  | 119 => ⟨S_, .i1⟩
  | 120 => ⟨S128, .i1⟩
  | 121 => ⟨S1x1x128x1, .i1⟩
  | 122 => ⟨S_, .f32⟩
  | 123 => ⟨S2x64x128, .f32⟩
  | 124 => ⟨S2x64x128x1, .f32⟩
  | 125 => ⟨S_, .f32⟩
  | 126 => ⟨S_, .f32⟩
  | 127 => ⟨S2x64x128x1, .i1⟩
  | _ => ⟨S2x128x512, .bf16⟩

abbrev hbmTy0_1 (i : Nat) : BufTy := match i % 128 with
  | 0 => ⟨S2x64x128x1, .f32⟩
  | 1 => ⟨S2x64x128x1, .f32⟩
  | 2 => ⟨S2x64x128x128, .f32⟩
  | 3 => ⟨S2x64x128x128, .f32⟩
  | 4 => ⟨S1x1x128x1, .i1⟩
  | 5 => ⟨S_, .f32⟩
  | 6 => ⟨S_, .f32⟩
  | 7 => ⟨S2x64x128x128, .i1⟩
  | 8 => ⟨S2x64x128x128, .f32⟩
  | 9 => ⟨S2x64x128x128, .f32⟩
  | 10 => ⟨S2x64x64x128, .f32⟩
  | 11 => ⟨S2x128x64x64, .f32⟩
  | 12 => ⟨S2x128x4096, .f32⟩
  | 13 => ⟨S2x128x512, .f32⟩
  | 14 => ⟨S2x128x512, .bf16⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Flat.lean ====
/-
  The kernel body, regrouped. The printed body is cut in parts of equal length; here it is cut where the algorithm is:
  one block per attention head, one for the output projection of a batch row, one for a remote copy of a slot, one for a
  step of the butterfly sum. Every block is written once, at a symbolic phase `p` and a symbolic batch row `b`, and
  `body_eq` says that the printed body is the blocks in order.
-/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Sum

open Cert.KernelIdeal Cert.KernelIdeal.Gen
open Idealize.ShloMosaic Idealize.ShloMosaic.TcCoe
open Idealize.SL.Sem

variable {F : FTy → Type} [FloatOps F]

/-! ## The buffers -/

abbrev xM : Memref sig .tc .vmem S2x128x512 .bf16 := Memref.whole cc0_stg0_0
abbrev wqM : Memref sig .tc .vmem S512x256 .bf16 := Memref.whole cc0_stg1_0
abbrev kM : Memref sig .tc .vmem S2x4x128x64 .bf16 := Memref.whole cc0_stg2_0
abbrev vM : Memref sig .tc .vmem S2x4x128x64 .bf16 := Memref.whole cc0_stg3_0
abbrev woM : Memref sig .tc .vmem S256x512 .bf16 := Memref.whole cc0_stg4_0
abbrev outM : Memref sig .tc .vmem S2x128x512 .bf16 := Memref.whole cc0_stg5_0
abbrev ctxM : Memref sig .tc .vmem S2x128x256 .bf16 := Memref.whole cc0_scratch0
abbrev accM : Memref sig .tc .vmem S2x128x512 .f32 := Memref.whole cc0_scratch1
abbrev sendM : Memref sig .tc .vmem S4x2x128x512 .bf16 := Memref.whole cc0_scratch2
abbrev recvM : Memref sig .tc .vmem S4x2x128x512 .bf16 := Memref.whole cc0_scratch3

/-! ## The rectangles -/

theorem inb_row (b : Fin 2) : ∀ a, (![b.val, 0, 0] : Fin 3 → Nat) a + S1x128x512.size a ≤ S2x128x512.size a := by
  revert b; decide
theorem inb_head (b : Fin 2) (h : Fin 4) :
    ∀ a, (![b.val, h.val, 0, 0] : Fin 4 → Nat) a + S1x1x128x64.size a ≤ S2x4x128x64.size a := by
  revert b h; decide
theorem inb_col (b : Fin 2) (h : Fin 4) :
    ∀ a, (![b.val, 0, 64 * h.val] : Fin 3 → Nat) a + S1x128x64.size a ≤ S2x128x256.size a := by
  revert b h; decide
theorem inb_ctx (b : Fin 2) : ∀ a, (![b.val, 0, 0] : Fin 3 → Nat) a + S1x128x256.size a ≤ S2x128x256.size a := by
  revert b; decide
theorem inb_slot (p : Fin 4) (b : Fin 2) :
    ∀ a, (![p.val, b.val, 0, 0] : Fin 4 → Nat) a + S1x1x128x512.size a ≤ S4x2x128x512.size a := by
  revert p b; decide
theorem inb_sem (p : Fin 4) (b : Fin 2) : ∀ a, (![p.val, b.val] : Fin 2 → Nat) a + S1x1.size a ≤ S4x2.size a := by
  revert p b; decide

/-- Row `b` of a 2x128x512 buffer. -/
abbrev rowR (b : Fin 2) : Rect S2x128x512 := Rect.unit (s := S2x128x512) ![b.val, 0, 0] S1x128x512.size (inb_row b)
/-- Head `h` of row `b` of the keys or the values. -/
abbrev headR (b : Fin 2) (h : Fin 4) : Rect S2x4x128x64 :=
  Rect.unit (s := S2x4x128x64) ![b.val, h.val, 0, 0] S1x1x128x64.size (inb_head b h)
/-- The 64 columns of head `h` in row `b` of the context buffer. -/
abbrev colR (b : Fin 2) (h : Fin 4) : Rect S2x128x256 :=
  Rect.unit (s := S2x128x256) ![b.val, 0, 64 * h.val] S1x128x64.size (inb_col b h)
/-- Row `b` of the context buffer. -/
abbrev ctxR (b : Fin 2) : Rect S2x128x256 := Rect.unit (s := S2x128x256) ![b.val, 0, 0] S1x128x256.size (inb_ctx b)
/-- Slot `(p, b)` of the send or the receive buffer. -/
abbrev slotR (p : Fin 4) (b : Fin 2) : Rect S4x2x128x512 :=
  Rect.unit (s := S4x2x128x512) ![p.val, b.val, 0, 0] S1x1x128x512.size (inb_slot p b)

/-- Slot `(p, b)` of the send buffer, as a copy addresses it. -/
abbrev sendV (p : Fin 4) (b : Fin 2) : Memref sig .tc .vmem S128x512 .bf16 :=
  (sendM.slice (slotR p b) (fun _ => rfl)).squeeze S128x512 squeezes_S1x1x128x512_S128x512
/-- Slot `(p, b)` of the receive buffer, as a copy addresses it. -/
abbrev recvV (p : Fin 4) (b : Fin 2) : Memref sig .tc .vmem S128x512 .bf16 :=
  (recvM.slice (slotR p b) (fun _ => rfl)).squeeze S128x512 squeezes_S1x1x128x512_S128x512
/-- The semaphore the copy out of send slot `(p, b)` completes on, at its source. -/
abbrev sendS (p : Fin 4) (b : Fin 2) : DmaSem sig :=
  ((cc0_scratch4.slice (Rect.unit (s := S4x2) ![p.val, b.val] S1x1.size (inb_sem p b))).squeeze S_ squeezes_S1x1_S_).sem
/-- The semaphore the copy into receive slot `(p, b)` completes on, at its target. -/
abbrev recvS (p : Fin 4) (b : Fin 2) : DmaSem sig :=
  ((cc0_scratch5.slice (Rect.unit (s := S4x2) ![p.val, b.val] S1x1.size (inb_sem p b))).squeeze S_ squeezes_S1x1_S_).sem
/-- The barrier semaphore. -/
abbrev barS : Idealize.ShloMosaic.Sem sig := SemArray.sem (SemArray.scalar (sig.barrier 0 rfl) : Sems sig S_)

theorem slices_q (h : Fin 4) : S128x256.Slices ![0, 64 * h.val] S128x64 := by revert h; decide
theorem packed_col (b : Fin 2) (h : Fin 4) : (colR b h).PackedRows (EltTy.packing .bf16) := by revert b h; decide
theorem packed_slot (p : Fin 4) (b : Fin 2) : (slotR p b).PackedRows (EltTy.packing .bf16) := by revert p b; decide
theorem words_slot (p : Fin 4) (b : Fin 2) : (slotR p b).WholeWords (EltTy.packing .bf16) := by revert p b; decide
theorem packed_row (b : Fin 2) : (rowR b).PackedRows (EltTy.packing .bf16) := by revert b; decide

theorem send_words (p : Fin 4) (b : Fin 2) : (sendV p b).view.WordExact :=
  ((Memref.isWhole_whole cc0_scratch2).wordExact_slice rfl _ (words_slot p b)).reshape _ _
theorem recv_words (p : Fin 4) (b : Fin 2) : (recvV p b).view.WordExact :=
  ((Memref.isWhole_whole cc0_scratch3).wordExact_slice rfl _ (words_slot p b)).reshape _ _

/-! ## The values the body computes -/

/-- The mask: `true` where the query's block attends to the key's. -/
def maskV : IVec S128x128 1 :=
  k0_pay8 (k0_pay5 (iota .tc S128x128 32 [0] iota_S128x128_d0_w32) 64#32 k0_pay3 k0_pay4 0#32)
    (k0_pay6 (iota .tc S128x128 32 [1] iota_S128x128_d1_w32))
    (k0_pay7 (iota .tc S128x128 32 [0] iota_S128x128_d0_w32) (iota .tc S128x128 32 [1] iota_S128x128_d1_w32) 64#32 k0_pay3 k0_pay4 0#32)
    (Scalar.select (Scalar.cmpi .eq 4#32 0#32) 1#32 4#32)

/-- The queries of one batch row. -/
def qV (wq : Vec F S512x256 .bf16) (x : Vec F S1x128x512 .bf16) : FVec F S128x256 .bf16 :=
  truncf .bf16 (matmul dot_S128x512_S512x256_S128x256_1_0_0_1_n_n none (shapeCast S128x512 x shapeCasts_S1x128x512_S128x512)
    (shapeCast S512x256 wq shapeCasts_S512x256_S512x256) (constant S128x256 .f32 0x00000000#32)) bitsLt_bf16_f32

/-- The masked, scaled scores of one head. -/
def scoreV (h : Fin 4) (q : FVec F S128x256 .bf16) (k : Vec F S1x1x128x64 .bf16) : FVec F S128x128 .f32 :=
  select maskV
    (mulf (matmul dot_S128x64_S128x64_S128x128_1_1_0_0_n_n none (extractStridedSlice S128x64 ![0, 64 * h.val] q (slices_q h))
      (shapeCast S128x64 k shapeCasts_S1x1x128x64_S128x64) (constant S128x128 .f32 0x00000000#32))
      (broadcast S128x128 (Scalar.ofBits .f32 0x3E000000#32)))
    (broadcast S128x128 (Scalar.ofBits .f32 0xCE6E6B28#32))

/-- `exp` of the scores less their row's maximum. -/
def expV (s : FVec F S128x128 .f32) : FVec F S128x128 .f32 :=
  exp (subf s (broadcastTo S128x128
    (shapeCast S128x1 (multiReduction .maximumf [1] S128 s 0xFF800000#32 reduces_S128x128_S128 (.inl rfl) rfl) shapeCasts_S128_S128x1)
    broadcasts_S128x1_S128x128))

/-- The row-wise softmax. -/
def softV (s : FVec F S128x128 .f32) : FVec F S128x128 .f32 :=
  divf (expV s) (broadcastTo S128x128
    (shapeCast S128x1 (multiReduction .add [1] S128 (expV s) 0x00000000#32 reduces_S128x128_S128 (.inl rfl) rfl) shapeCasts_S128_S128x1)
    broadcasts_S128x1_S128x128)

/-- One head's 64 context columns. -/
def headV (h : Fin 4) (q : FVec F S128x256 .bf16) (k v : Vec F S1x1x128x64 .bf16) : Vec F S1x128x64 .bf16 :=
  shapeCast S1x128x64 (truncf .bf16 (matmul dot_S128x128_S128x64_S128x64_1_0_0_1_n_n none
    (truncf .bf16 (softV (scoreV h q k)) bitsLt_bf16_f32) (shapeCast S128x64 v shapeCasts_S1x1x128x64_S128x64)
    (constant S128x64 .f32 0x00000000#32)) bitsLt_bf16_f32) shapeCasts_S128x64_S1x128x64

/-- A batch row's context through this device's rows of the output projection. -/
def projV (wo : Vec F S256x512 .bf16) (ctx : Vec F S1x128x256 .bf16) : FVec F S128x512 .f32 :=
  matmul dot_S128x256_S256x512_S128x512_1_0_0_1_n_n none (shapeCast S128x256 ctx shapeCasts_S1x128x256_S128x256)
    (shapeCast S256x512 wo shapeCasts_S256x512_S256x512) (constant S128x512 .f32 0x00000000#32)

/-- A matrix as a row of the accumulator. -/
def rowV (a : FVec F S128x512 .f32) : Vec F S1x128x512 .f32 := shapeCast S1x128x512 a shapeCasts_S128x512_S1x128x512

/-- A matrix, rounded, as a send slot. -/
def packV (a : FVec F S128x512 .f32) : Vec F S1x1x128x512 .bf16 :=
  shapeCast S1x1x128x512 (truncf .bf16 a bitsLt_bf16_f32) shapeCasts_S128x512_S1x1x128x512

/-- The accumulator with what a receive slot holds added, as a matrix. -/
def plusV (a : Vec F S1x128x512 .f32) (r : Vec F S1x1x128x512 .bf16) : FVec F S128x512 .f32 :=
  addf (shapeCast S128x512 a shapeCasts_S1x128x512_S128x512)
    (extf .f32 (shapeCast S128x512 r shapeCasts_S1x1x128x512_S128x512) bitsLt_bf16_f32)

/-- The result's row: the last step, rounded. -/
def outV (a : Vec F S1x128x512 .f32) (r : Vec F S1x1x128x512 .bf16) : Vec F S1x128x512 .bf16 :=
  shapeCast S1x128x512 (truncf .bf16 (plusV a r) bitsLt_bf16_f32) shapeCasts_S128x512_S1x128x512

/-! ## The blocks -/

/-- The programs of the body. -/
abbrev BodyP (F : FTy → Type) [FloatOps F] (α : Type) := Prog (TpuEff nD τ sig (Elt F) Λ₀ .tc) α

/-- Head `h` of row `b`: its keys, its values, and its context columns stored. -/
def headP (b : Fin 2) (h : Fin 4) (q : FVec F S128x256 .bf16) : BodyP F PUnit := do
  let k ← Prog.lift (.load kM (headR b h).toLoadRect (View.loadsAt_vmem h_S1x1x128x64))
  let v ← Prog.lift (.load vM (headR b h).toLoadRect (View.loadsAt_vmem h_S1x1x128x64))
  let _ ← Prog.lift (.load ctxM (colR b h).toLoadRect (View.loadsAt_vmem h_S1x128x64))
  Prog.lift (.store ctxM (colR b h) (headV h q k v) Finset.univ
    (View.stores_vmem h_S1x128x64 ((Memref.isWhole_whole cc0_scratch0).storeExact_slice rfl _ (packed_col b h)) (fun _ => rfl)) (.inl rfl))

/-- The projection of row `b`, into the accumulator and, rounded, into send slot `(0, b)`. -/
def projP (b : Fin 2) (wo : Vec F S256x512 .bf16) : BodyP F PUnit := do
  let ctx ← Prog.lift (.load ctxM (ctxR b).toLoadRect (View.loadsAt_vmem h_S1x128x256))
  let _ ← Prog.lift (.load accM (rowR b).toLoadRect (View.loadsAt_vmem h_S1x128x512))
  Prog.lift (.store accM (rowR b) (rowV (projV wo ctx)) Finset.univ
    (View.stores_vmem_bits_univ h_S1x128x512 rfl) (.inl rfl))
  let _ ← Prog.lift (.load sendM (slotR 0 b).toLoadRect (View.loadsAt_vmem h_S1x1x128x512))
  Prog.lift (.store sendM (slotR 0 b) (packV (projV wo ctx)) Finset.univ
    (View.stores_vmem h_S1x1x128x512 ((Memref.isWhole_whole cc0_scratch2).storeExact_slice rfl _ (packed_slot 0 b)) (fun _ => rfl)) (.inl rfl))

/-- The copy of send slot `(p, b)` into receive slot `(p, b)` of device `n`. -/
def copyP (p : Fin 4) (b : Fin 2) (n : Dev nD) : BodyP F PUnit :=
  Prog.lift (.enqueueDma (sendV p b) (.remote (Dev.tc n) (recvV p b) (.dma (sendS p b))) (.dma (recvS p b))
    (send_words p b) (recv_words p b) ⟨⟨rfl, Or.inl rfl⟩, trivial⟩)

/-- The wait for the partner's copy into receive slot `(p, b)`. -/
def recvP (p : Fin 4) (b : Fin 2) : BodyP F PUnit :=
  Prog.lift (.waitDma2 (recvS p b) (sendV p b) (recvV p b) (send_words p b) (recv_words p b))

/-- The wait for this device's own copy out of send slot `(p, b)`. -/
def sentP (p : Fin 4) (b : Fin 2) : BodyP F PUnit :=
  Prog.lift (.waitDma2 (sendS p b) (recvV p b) (sendV p b) (recv_words p b) (send_words p b))

/-- One step of the sum: what receive slot `(p, b)` holds is added to the accumulator's row, and the row, rounded, is
    stored in send slot `(p', b)` for the next step. -/
def stepP (p p' : Fin 4) (b : Fin 2) : BodyP F PUnit := do
  let a ← Prog.lift (.load accM (rowR b).toLoadRect (View.loadsAt_vmem h_S1x128x512))
  let r ← Prog.lift (.load recvM (slotR p b).toLoadRect (View.loadsAt_vmem h_S1x1x128x512))
  let _ ← Prog.lift (.load accM (rowR b).toLoadRect (View.loadsAt_vmem h_S1x128x512))
  Prog.lift (.store accM (rowR b) (rowV (plusV a r)) Finset.univ (View.stores_vmem_bits_univ h_S1x128x512 rfl) (.inl rfl))
  let _ ← Prog.lift (.load sendM (slotR p' b).toLoadRect (View.loadsAt_vmem h_S1x1x128x512))
  Prog.lift (.store sendM (slotR p' b) (packV (plusV a r)) Finset.univ
    (View.stores_vmem h_S1x1x128x512 ((Memref.isWhole_whole cc0_scratch2).storeExact_slice rfl _ (packed_slot p' b)) (fun _ => rfl)) (.inl rfl))

/-- The last step: the sum, rounded, is stored in the result's row. -/
def lastP (b : Fin 2) : BodyP F PUnit := do
  let a ← Prog.lift (.load accM (rowR b).toLoadRect (View.loadsAt_vmem h_S1x128x512))
  let r ← Prog.lift (.load recvM (slotR 3 b).toLoadRect (View.loadsAt_vmem h_S1x1x128x512))
  let _ ← Prog.lift (.load outM (rowR b).toLoadRect (View.loadsAt_vmem h_S1x128x512))
  Prog.lift (.store outM (rowR b) (outV a r) Finset.univ
    (View.stores_vmem h_S1x128x512 ((Memref.isWhole_whole cc0_stg5_0).storeExact_slice rfl _ (packed_row b)) (fun _ => rfl)) (.inl rfl))

/-- The attention of row `b`: its four heads and their projection. -/
def attnP (b : Fin 2) (wq : Vec F S512x256 .bf16) (wo : Vec F S256x512 .bf16) : BodyP F PUnit := do
  let x ← Prog.lift (.load xM (rowR b).toLoadRect (View.loadsAt_vmem h_S1x128x512))
  headP b 0 (qV wq x)
  headP b 1 (qV wq x)
  headP b 2 (qV wq x)
  headP b 3 (qV wq x)
  projP b wo

/-- The device a copy of phase `p` and row `b` goes to, as the body computes it. -/
def target (c : Dev nD) : Fin 4 → Fin 2 → Dev nD
  | 0, 0 => ⟨k0_dev5 c, k0_dev5_lt c⟩
  | 0, 1 => ⟨k0_dev6 c, k0_dev6_lt c⟩
  | 1, 0 => ⟨k0_dev7 c, k0_dev7_lt c⟩
  | 1, 1 => ⟨k0_dev8 c, k0_dev8_lt c⟩
  | 2, 0 => ⟨k0_dev9 c, k0_dev9_lt c⟩
  | 2, 1 => ⟨k0_dev10 c, k0_dev10_lt c⟩
  | 3, 0 => ⟨k0_dev11 c, k0_dev11_lt c⟩
  | 3, 1 => ⟨k0_dev12 c, k0_dev12_lt c⟩

/-- The four signals and the wait that start the body. -/
def meetP (c : Dev nD) : BodyP F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semWaitWord barS 4#32

/-- The attention of both rows, each row's first copy enqueued as soon as its slot is full. -/
def attnsP (c : Dev nD) : BodyP F PUnit := do
  let wq ← Prog.lift (.load wqM (Rect.unit (s := S512x256) ![0, 0] S512x256.size inb_S512x256_S512x256_0_0).toLoadRect (View.loadsAt_vmem h_S512x256))
  let wo ← Prog.lift (.load woM (Rect.unit (s := S256x512) ![0, 0] S256x512.size inb_S256x512_S256x512_0_0).toLoadRect (View.loadsAt_vmem h_S256x512))
  attnP 0 wq wo
  copyP 0 0 (target c 0 0)
  attnP 1 wq wo
  copyP 0 1 (target c 0 1)

/-- Phase `p` of row `b`: the partner's sum is waited for, added, and the new sum sent on. -/
def phaseP (c : Dev nD) (p p' : Fin 4) (b : Fin 2) : BodyP F PUnit := do
  recvP p b
  stepP p p' b
  copyP p' b (target c p' b)

/-- The last phase of row `b`. -/
def finishP (b : Fin 2) : BodyP F PUnit := do
  recvP 3 b
  lastP b

/-- The waits for the device's own copies. -/
def drainP : BodyP F PUnit := do
  sentP 0 0
  sentP 0 1
  sentP 1 0
  sentP 1 1
  sentP 2 0
  sentP 2 1
  sentP 3 0
  sentP 3 1

/-- The whole body. -/
def bodyP : BodyP F PUnit := do
  let c ← Prog.lift .deviceId
  meetP c
  attnsP c
  phaseP c 0 1 0
  phaseP c 0 1 1
  phaseP c 1 2 0
  phaseP c 1 2 1
  phaseP c 2 3 0
  phaseP c 2 3 1
  finishP 0
  finishP 1
  drainP

set_option maxRecDepth 65536 in
set_option maxHeartbeats 4000000 in
/-- The printed body is the blocks in order. -/
theorem body_eq :
    cc0_body (F := F) xM (Memref.isWhole_whole _) wqM (Memref.isWhole_whole _) kM (Memref.isWhole_whole _) vM (Memref.isWhole_whole _)
      woM (Memref.isWhole_whole _) outM (Memref.isWhole_whole _) ctxM (Memref.isWhole_whole _) accM (Memref.isWhole_whole _)
      sendM (Memref.isWhole_whole _) recvM (Memref.isWhole_whole _) cc0_scratch4 cc0_scratch5 = bodyP := by
  rw [cc0_body_eq_skeleton]
  rfl

end Cert.KernelIdeal.Sum

end
-- ==== Proof.Talk.lean ====
/-
  The protocol of the kernel. Device `c` exchanges with its partner `c xor 2^j`, one bit `j` in each phase: row 0 goes
  through the bits 0, 1, 2, 3 and row 1 through 3, 2, 1, 0.

    barrier cell of `c`     four duties, one per partner, one unit each. Partner `d` pays with the two receive slots of its
                            own that `c` will write, and the fact that `d` has opened their cells.
    send cell `(p, b)`      one duty, paid by the device's own copy: the send slot comes back.
    receive cell `(p, b)`   one duty, paid by the partner's copy: the receive slot comes back, holding what the partner sent.

  What is sent is a function of the devices' inputs alone, so the schedule names it (`sentV`).
-/
module

public import proofs.«01_k».proof.Proof.Flat
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Lib.ValueIdxCore

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Partners -/

/-- The device whose number differs from `c`'s in bit `j`. -/
def partner (j : Fin 4) (c : Dev nD) : Dev nD :=
  ⟨c.val ^^^ 2 ^ j.val, Nat.xor_lt_two_pow (n := 4) c.isLt (by revert j; decide)⟩

theorem partner_partner (j : Fin 4) (c : Dev nD) : partner j (partner j c) = c := by revert j c; decide

/-- The exchange along bit `j`, as a permutation of the devices. -/
def swap (j : Fin 4) : Dev nD ≃ Dev nD := ⟨partner j, partner j, partner_partner j, partner_partner j⟩

/-- The bit row `b` goes through in phase `p`. -/
def bit (p : Fin 4) (b : Fin 2) : Fin 4 := if b = 0 then p else p.rev

/-- Whom device `c` exchanges row `b` with in phase `p`. -/
abbrev peer (p : Fin 4) (b : Fin 2) (c : Dev nD) : Dev nD := partner (bit p b) c

theorem bit_row0 (j : Fin 4) : bit j 0 = j := by revert j; decide
theorem bit_row1 (j : Fin 4) : bit j.rev 1 = j := by revert j; decide

theorem target_eq (c : Dev nD) (p : Fin 4) (b : Fin 2) : target c p b = peer p b c := by revert c p b; decide
theorem dev1_eq (c : Dev nD) : (⟨k0_dev1 c, k0_dev1_lt c⟩ : Dev nD) = partner 0 c := by revert c; decide
theorem dev2_eq (c : Dev nD) : (⟨k0_dev2 c, k0_dev2_lt c⟩ : Dev nD) = partner 1 c := by revert c; decide
theorem dev3_eq (c : Dev nD) : (⟨k0_dev3 c, k0_dev3_lt c⟩ : Dev nD) = partner 2 c := by revert c; decide
theorem dev4_eq (c : Dev nD) : (⟨k0_dev4 c, k0_dev4_lt c⟩ : Dev nD) = partner 3 c := by revert c; decide

/-! ## What the devices compute -/

/-- Every device's inputs: its rows of `x` (the same everywhere), its columns of the query projection, its heads' keys
    and values, its rows of the output projection. -/
structure Inp (F : FTy → Type) where
  x : Dev nD → Vec F S2x128x512 .bf16
  wq : Dev nD → Vec F S512x256 .bf16
  k : Dev nD → Vec F S2x4x128x64 .bf16
  v : Dev nD → Vec F S2x4x128x64 .bf16
  wo : Dev nD → Vec F S256x512 .bf16

/-- Row `b` of `x`, as a load reads it. -/
abbrev Inp.xRow (I : Inp F) (c : Dev nD) (b : Fin 2) : Vec F S1x128x512 .bf16 := (xM.access (rowR b)).read (Elt F) (I.x c)
/-- The keys of head `h` of row `b`. -/
abbrev Inp.kHead (I : Inp F) (c : Dev nD) (b : Fin 2) (h : Fin 4) : Vec F S1x1x128x64 .bf16 := (kM.access (headR b h)).read (Elt F) (I.k c)
/-- The values of head `h` of row `b`. -/
abbrev Inp.vHead (I : Inp F) (c : Dev nD) (b : Fin 2) (h : Fin 4) : Vec F S1x1x128x64 .bf16 := (vM.access (headR b h)).read (Elt F) (I.v c)

/-- The head a context column belongs to. -/
def headOf (i : S1x128x256.Idx) : Fin 4 := ⟨(i 2).val / 64, by have h : (i 2).val < 256 := (i 2).isLt; omega⟩
/-- A context column among its head's. -/
def inHead (i : S1x128x256.Idx) : S1x128x64.Idx := ValueIdx.ix3 (i 0) (i 1) ⟨(i 2).val % 64, Nat.mod_lt _ (by decide)⟩

/-- Four heads side by side. -/
def catV (hs : Fin 4 → Vec F S1x128x64 .bf16) : Vec F S1x128x256 .bf16 := fun i => hs (headOf i) (inHead i)

/-- Head `h`'s context columns of row `b` on device `c`. -/
def Inp.head (I : Inp F) (c : Dev nD) (b : Fin 2) (h : Fin 4) : Vec F S1x128x64 .bf16 :=
  headV h (qV (I.wq c) (I.xRow c b)) (I.kHead c b h) (I.vHead c b h)

/-- Row `b` of device `c`'s own summand. -/
def Inp.part (I : Inp F) (c : Dev nD) (b : Fin 2) : FVec F S128x512 .f32 := projV (I.wo c) (catV (I.head c b))

/-- Row `b` of device `c`'s accumulator after `n` phases. -/
def Inp.acc (I : Inp F) : ℕ → Dev nD → Fin 2 → FVec F S128x512 .f32
  | 0, c, b => I.part c b
  | n + 1, c, b => plusV (rowV (I.acc n c b)) (packV (I.acc n (peer (Fin.ofNat 4 n) b c) b))

/-- What device `c` sends in phase `p` of row `b`. -/
def Inp.sentV (I : Inp F) (c : Dev nD) (p : Fin 4) (b : Fin 2) : Vec F S1x1x128x512 .bf16 := packV (I.acc p.val c b)

/-- Row `b` of the result on device `c`. -/
def Inp.outRow (I : Inp F) (c : Dev nD) (b : Fin 2) : Vec F S1x128x512 .bf16 :=
  outV (rowV (I.acc 3 c b)) (I.sentV (peer 3 b c) 3 b)

theorem Inp.acc_succ (I : Inp F) (p p' : Fin 4) (hp : p'.val = p.val + 1) (c : Dev nD) (b : Fin 2) :
    I.acc p'.val c b = plusV (rowV (I.acc p.val c b)) (I.sentV (peer p b c) p b) := by
  rw [hp]
  show plusV (rowV (I.acc p.val c b)) (packV (I.acc p.val (peer (Fin.ofNat 4 p.val) b c) b)) = _
  rw [show Fin.ofNat 4 p.val = p from Fin.ext (Nat.mod_eq_of_lt p.isLt)]
  rfl

/-! ## Resources -/

/-- The pipeline library's algebra, and the protocol's, whose duties are numbered by the bit they are for. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

abbrev barCell (c : Dev nD) : GSem nD τ sig := ((c : Thread nD τ), .reg barS)
abbrev sendCell (c : Dev nD) (p : Fin 4) (b : Fin 2) : GSem nD τ sig := ((c : Thread nD τ), .dma (sendS p b))
abbrev recvCell (c : Dev nD) (p : Fin 4) (b : Fin 2) : GSem nD τ sig := ((c : Thread nD τ), .dma (recvS p b))

/-- The rectangle `r` of a buffer of device `c`, held outright, reading `v`. -/
def holds {s : Shape} {e : EltTy} (c : Dev nD) (M : Memref sig .tc .vmem s e) (r : Rect s) (v : r.shape.Idx → Elt F e) : sProp 𝕄 :=
  iprop(∃ f : Buf (Elt F) ((M.access r).loc (c : Thread nD τ)), ⌜(M.access r).read (Elt F) f = v⌝
    ∗ (M.access r).loc (c : Thread nD τ) ↦[(M.access r).set]{fullShare} f)

/-- The rectangle `r` of a buffer of device `c`, held outright, at contents not said. -/
def holdsAny {s : Shape} {e : EltTy} (c : Dev nD) (M : Memref sig .tc .vmem s e) (r : Rect s) : sProp 𝕄 :=
  iprop(∃ f : Buf (Elt F) ((M.access r).loc (c : Thread nD τ)), (M.access r).loc (c : Thread nD τ) ↦[(M.access r).set]{fullShare} f)

instance holds_storable {s : Shape} {e : EltTy} (c : Dev nD) (M : Memref sig .tc .vmem s e) (r : Rect s) (v : r.shape.Idx → Elt F e) :
    BI.Storable (upEmb : UEmb _ 𝕄) (holds c M r v) := by unfold holds; infer_instance
instance holdsAny_storable {s : Shape} {e : EltTy} (c : Dev nD) (M : Memref sig .tc .vmem s e) (r : Rect s) :
    BI.Storable (upEmb : UEmb _ 𝕄) (holdsAny (F := F) c M r) := by unfold holdsAny; infer_instance

theorem holds_any {s : Shape} {e : EltTy} (c : Dev nD) (M : Memref sig .tc .vmem s e) (r : Rect s) (v : r.shape.Idx → Elt F e) :
    holds c M r v ⊢ (holdsAny (F := F) c M r : sProp 𝕄) := by
  unfold holds holdsAny
  iintro ⟨%f, -, H⟩
  iexists f; iexact H

/-! ## The schedule -/

/-- What a semaphore is to the protocol. -/
inductive Role where
  | bar
  | send (p : Fin 4) (b : Fin 2)
  | recv (p : Fin 4) (b : Fin 2)
  | other
  deriving DecidableEq

/-- The role of a semaphore: the kernel's own DMA semaphores are numbered from 6, send before receive, phase by phase. -/
def role : SemLoc sig → Role
  | .reg _ => .bar
  | .dma s =>
    if s.val < 6 then .other
    else if s.val < 14 then .send (Fin.ofNat 4 ((s.val - 6) / 2)) (Fin.ofNat 2 s.val)
    else .recv (Fin.ofNat 4 ((s.val - 14) / 2)) (Fin.ofNat 2 s.val)

theorem role_bar : role (.reg barS) = .bar := rfl
theorem role_send (p : Fin 4) (b : Fin 2) : role (.dma (sendS p b)) = .send p b := by revert p b; decide
theorem role_recv (p : Fin 4) (b : Fin 2) : role (.dma (recvS p b)) = .recv p b := by revert p b; decide

/-- What a copy of a slot credits. -/
abbrev N : ℕ := (recvV 0 0).view.dmaCredit
theorem N_pos : 0 < N := View.dmaCredit_pos _ (by decide)
theorem credit_recv (p : Fin 4) (b : Fin 2) : (recvV p b).view.dmaCredit = N := rfl
theorem credit_send (p : Fin 4) (b : Fin 2) : (sendV p b).view.dmaCredit = N := rfl

/-- What the partner along bit `j` hands over at the barrier: the two slots of its own that `c` will write, and that their
    cells are open. -/
def barPay (c : Dev nD) (j : Fin 4) : sProp 𝕄 :=
  iprop((holdsAny (partner j c) recvM (slotR j 0) ∗ reached ER (recvCell (partner j c) j 0) 0)
    ∗ (holdsAny (partner j c) recvM (slotR j.rev 1) ∗ reached ER (recvCell (partner j c) j.rev 1) 0))

variable (I : Inp F)

/-- The protocol's schedule: one round, the duties above. -/
def talk : Rounds.Schedule (GSem nD τ sig) (Fin 4) 𝕄 where
  duties g r := if r = 0 ∧ g.1.2 = .tc then (match role g.2 with | .bar => Finset.univ | .send _ _ => {0} | .recv _ _ => {0} | .other => ∅) else ∅
  unitless _ := False
  amount g _ _ := match role g.2 with | .bar => 1 | _ => N
  payload g _ j := match role g.2 with
    | .bar => barPay g.1.1 j
    | .send p b => holdsAny g.1.1 sendM (slotR p b)
    | .recv p b => holds g.1.1 recvM (slotR p b) (I.sentV (peer p b g.1.1) p b)
    | .other => iprop(emp)
  amount_pos g _ _ _ := by
    cases role g.2
    · exact Nat.one_pos
    all_goals exact N_pos

instance talk_storable (g : GSem nD τ sig) (r : ℕ) (j : Fin 4) : BI.Storable (upEmb : UEmb _ 𝕄) ((talk I).payload g r j) := by
  dsimp only [talk]
  unfold barPay
  split <;> infer_instance

section Tables

variable (c : Dev nD) (p : Fin 4) (b : Fin 2) (j : Fin 4)

theorem duties_bar : (talk I).duties (barCell c) 0 = Finset.univ := by
  dsimp only [talk]; rw [if_pos ⟨rfl, rfl⟩, role_bar]
theorem duties_send : (talk I).duties (sendCell c p b) 0 = {0} := by
  dsimp only [talk]; rw [if_pos ⟨rfl, rfl⟩, role_send]
theorem duties_recv : (talk I).duties (recvCell c p b) 0 = {0} := by
  dsimp only [talk]; rw [if_pos ⟨rfl, rfl⟩, role_recv]
theorem duties_later (g : GSem nD τ sig) : ∀ r, 1 ≤ r → (talk I).duties g r = ∅ := fun r hr => by
  dsimp only [talk]; rw [if_neg (fun h => by omega)]

theorem amount_bar : (talk I).amount (barCell c) 0 j = 1 := rfl
theorem amount_send : (talk I).amount (sendCell c p b) 0 j = N := by dsimp only [talk]; rw [role_send]
theorem amount_recv : (talk I).amount (recvCell c p b) 0 j = N := by dsimp only [talk]; rw [role_recv]

theorem expect_bar : (talk I).expect (barCell c) 0 = 4 := by
  unfold Schedule.expect Schedule.amountOf
  rw [duties_bar, Finset.sum_congr rfl fun j _ => amount_bar I c j]
  rfl
theorem expect_send : (talk I).expect (sendCell c p b) 0 = N := by
  unfold Schedule.expect Schedule.amountOf; rw [duties_send, Finset.sum_singleton, amount_send]
theorem expect_recv : (talk I).expect (recvCell c p b) 0 = N := by
  unfold Schedule.expect Schedule.amountOf; rw [duties_recv, Finset.sum_singleton, amount_recv]

theorem payload_bar : (talk I).payload (barCell c) 0 j = barPay c j := rfl
theorem payload_send : (talk I).payload (sendCell c p b) 0 j = holdsAny c sendM (slotR p b) := by
  dsimp only [talk]; rw [role_send]
theorem payload_recv :
    (talk I).payload (recvCell c p b) 0 j = holds c recvM (slotR p b) (I.sentV (peer p b c) p b) := by
  dsimp only [talk]; rw [role_recv]

theorem rest_bar : bigSep ((talk I).duties (barCell c) 0 \ ∅) (fun j => (talk I).payload (barCell c) 0 j)
    = bigSep Finset.univ fun j => barPay c j := by rw [Finset.sdiff_empty, duties_bar]; rfl
theorem rest_send : bigSep ((talk I).duties (sendCell c p b) 0 \ ∅) (fun j => (talk I).payload (sendCell c p b) 0 j)
    = holdsAny c sendM (slotR p b) := by rw [Finset.sdiff_empty, duties_send, bigSep_singleton, payload_send]
theorem rest_recv : bigSep ((talk I).duties (recvCell c p b) 0 \ ∅) (fun j => (talk I).payload (recvCell c p b) 0 j)
    = holds c recvM (slotR p b) (I.sentV (peer p b c) p b) := by
  rw [Finset.sdiff_empty, duties_recv, bigSep_singleton, payload_recv]

end Tables

/-! ## What is owed, and the levels -/

/-- What is owed when the cells of a list are still to be paid. -/
def owed : List (GSem nD τ sig × ℕ) → CellTallies nD τ sig Unit
  | [] => 0
  | x :: l => owed l + tallyAt x.1 () x.2

theorem owed_pos {l : List (GSem nD τ sig × ℕ)} {g : GSem nD τ sig} {u : Unit} (h : 0 < owed l g u) : ∃ x ∈ l, x.1 = g := by
  induction l with
  | nil => exact absurd h (Nat.lt_irrefl 0)
  | cons x l ih =>
    unfold owed at h
    rw [Pi.add_apply, Finsupp.add_apply] at h
    rcases Nat.add_pos_iff_pos_or_pos.mp h with h | h
    · obtain ⟨y, hy, e⟩ := ih h
      exact ⟨y, List.mem_cons_of_mem _ hy, e⟩
    · rw [tallyAt_apply] at h
      split at h
      · next hg => exact ⟨x, List.mem_cons_self, hg.1.symm⟩
      · exact absurd h (Nat.lt_irrefl 0)

/-- The unit owed to the partner along bit `j`. -/
abbrev dueBar (c : Dev nD) (j : Fin 4) : GSem nD τ sig × ℕ := (barCell (partner j c), 1)
/-- The copy owed to the peer of phase `p` and row `b`. -/
abbrev dueCopy (c : Dev nD) (p : Fin 4) (b : Fin 2) : GSem nD τ sig × ℕ := (recvCell (peer p b c) p b, N)

/-- The copies, in the order the body enqueues them. -/
abbrev copies (c : Dev nD) : List (GSem nD τ sig × ℕ) :=
  [dueCopy c 0 0, dueCopy c 0 1, dueCopy c 1 0, dueCopy c 1 1, dueCopy c 2 0, dueCopy c 2 1, dueCopy c 3 0, dueCopy c 3 1]

/-- All a device owes at launch, in the order it pays. -/
abbrev dues (c : Dev nD) : List (GSem nD τ sig × ℕ) :=
  dueBar c 0 :: dueBar c 1 :: dueBar c 2 :: dueBar c 3 :: copies c

abbrev O₀ (c : Dev nD) : CellTallies nD τ sig Unit := owed (dues c)

def L (g : GSem nD τ sig) : Finset Unit := if g.1.2 = .tc then {()} else ∅
/-- The barrier first, then the receive cells in the order they are waited for. -/
def lv (g : GSem nD τ sig) (_ : Unit) : ℕ := match role g.2 with | .bar => 1 | .recv p b => 2 + 2 * p.val + b.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (p : Fin 4) (b : Fin 2) (u : Unit) : lv (recvCell c p b) u = 2 + 2 * p.val + b.val := by
  dsimp only [lv]; rw [role_recv]

/-- A wait is allowed when all that is still owed is at TensorCore cells above the level of the awaited one. -/
theorem mayWait (c : Dev nD) (sm : SemLoc sig) (l : List (GSem nD τ sig × ℕ))
    (hl : ∀ x ∈ l, x.1.1.2 = .tc ∧ lv ((c : Thread nD τ), sm) () < lv x.1 ()) :
    (levAts L lv : sProp 𝕄) ⊢ MayWait (c : Thread nD τ) sm () (owed l) :=
  MayOwe.of_cut (L := L) (lev := lv) (lv ((c : Thread nD τ), sm) ())
    (fun q hq => by rw [Finset.mem_singleton.mp hq, L_tc]; exact Finset.mem_singleton_self _)
    (fun g u hg => by
      obtain ⟨x, hx, rfl⟩ := owed_pos hg
      unfold L; rw [if_pos (hl x hx).1]; exact Finset.mem_singleton_self _)
    (fun q hq => by rw [Finset.mem_singleton.mp hq])
    (fun g u hg => by
      obtain ⟨x, hx, rfl⟩ := owed_pos hg
      exact (hl x hx).2)

end Cert.KernelIdeal.Sum

end
-- ==== Proof.Steps.lean ====
/-
  The rules the body is run by: one per operation, at a rectangle held outright, and one per remote step of the protocol.
  Each says what one operation, alone, needs and leaves; `run_seq` puts two programs in sequence.
-/
module

public import proofs.«01_k».proof.Proof.Talk
public import Idealize.ShloMosaic.Lib.ViewIndex

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `P` and `Q` holds of its result. -/
abbrev runs {α : Type} (c : Dev nD) (P : BodyP F α) (Q : α → sProp 𝕄) : sProp 𝕄 :=
  wp frame (wpE (defs₀ (F := F)) 𝒱₀ (c : Thread nD τ) none) Set.univ P Q

variable (c : Dev nD) {s : Shape} {e : EltTy}

theorem run_seq {α β : Type} (P : BodyP F α) (k : α → BodyP F β) (Q : β → sProp 𝕄) :
    runs c (P >>= k) Q = runs c P fun a => runs c (k a) Q := wp_bind ..

theorem run_ret {α : Type} (a : α) (Q : α → sProp 𝕄) : Q a ⊢ runs c (Prog.ret a : BodyP F α) Q := by
  unfold runs
  rw [wp_ret]
  iintro H; imodintro; iexact H

theorem run_device (Q : Dev nD → sProp 𝕄) : Q c ⊢ runs c (Prog.lift .deviceId : BodyP F _) Q := by
  unfold runs
  rw [Prog.lift, wp_deviceId]
  exact run_ret c c Q

/-! ## Loads and stores -/

/-- A load of a rectangle from a set of elements held at `f`. -/
theorem run_load_on (M : Memref sig .tc .vmem s e) (r : Rect s) {hl : M.view.LoadsAt r.toLoadRect}
    {S : Finset (Idx ((M.access r).loc (c : Thread nD τ)))} {f : Buf (Elt F) ((M.access r).loc (c : Thread nD τ))} (hS : (M.access r).set ⊆ S)
    (Q : (r.shape.Idx → Elt F e) → sProp 𝕄) :
    iprop(((M.access r).loc (c : Thread nD τ) ↦[S]{fullShare} f)
      ∗ (((M.access r).loc (c : Thread nD τ) ↦[S]{fullShare} f) -∗ Q ((M.access r).read (Elt F) f)))
    ⊢ runs c (Prog.lift (.load M r.toLoadRect hl) : BodyP F _) Q := by
  unfold runs Prog.lift
  iintro ⟨H, Hk⟩
  iapply (wp_load_rect 𝒱₀ (c : Thread nD τ) none Set.univ hS) $$ H
  iintro H
  iapply (run_ret c)
  iapply Hk $$ H

/-- A store to a rectangle inside a set of elements held at `f`. -/
theorem run_store_on (M : Memref sig .tc .vmem s e) (r : Rect s) (w : r.shape.Idx → Elt F e)
    {hx : (M.access r).Stores Finset.univ} {hm : (Finset.univ : Finset r.shape.Idx) = Finset.univ ∨ ∀ a, r.stride a = 1}
    {S : Finset (Idx ((M.access r).loc (c : Thread nD τ)))} {f : Buf (Elt F) ((M.access r).loc (c : Thread nD τ))} (hS : (M.access r).set ⊆ S)
    (Q : PUnit → sProp 𝕄) :
    iprop(((M.access r).loc (c : Thread nD τ) ↦[S]{fullShare} f)
      ∗ (((M.access r).loc (c : Thread nD τ) ↦[S]{fullShare} (M.access r).write (Elt F) f w Finset.univ) -∗ Q ⟨⟩))
    ⊢ runs c (Prog.lift (.store M r w Finset.univ hx hm) : BodyP F _) Q := by
  unfold runs Prog.lift
  iintro ⟨H, Hk⟩
  iapply (wp_store 𝒱₀ (c : Thread nD τ) none Set.univ (by rw [View.setOn_univ]; exact hS)) $$ H
  iintro H
  iapply (run_ret c)
  iapply Hk $$ H

theorem run_load (M : Memref sig .tc .vmem s e) (r : Rect s) {hl : M.view.LoadsAt r.toLoadRect} (v : r.shape.Idx → Elt F e)
    (Q : (r.shape.Idx → Elt F e) → sProp 𝕄) :
    iprop(holds c M r v ∗ (holds c M r v -∗ Q v)) ⊢ runs c (Prog.lift (.load M r.toLoadRect hl) : BodyP F _) Q := by
  unfold holds
  iintro ⟨⟨%f, %hf, H⟩, Hk⟩
  subst hf
  iapply (run_load_on c M r (Finset.Subset.refl _) Q)
  isplitl [H]; · iexact H
  iintro H
  iapply Hk
  iexists f
  isplitr; · ipureintro; rfl
  iexact H

theorem run_load_any (M : Memref sig .tc .vmem s e) (r : Rect s) {hl : M.view.LoadsAt r.toLoadRect}
    (Q : (r.shape.Idx → Elt F e) → sProp 𝕄) :
    iprop(holdsAny c M r ∗ (∀ v, holdsAny c M r -∗ Q v)) ⊢ runs c (Prog.lift (.load M r.toLoadRect hl) : BodyP F _) Q := by
  unfold holdsAny
  iintro ⟨⟨%f, H⟩, Hk⟩
  iapply (run_load_on c M r (Finset.Subset.refl _) Q)
  isplitl [H]; · iexact H
  iintro H
  iapply Hk
  iexists f
  iexact H

theorem run_store (M : Memref sig .tc .vmem s e) (r : Rect s) (w : r.shape.Idx → Elt F e)
    {hx : (M.access r).Stores Finset.univ} {hm : (Finset.univ : Finset r.shape.Idx) = Finset.univ ∨ ∀ a, r.stride a = 1} (Q : PUnit → sProp 𝕄) :
    iprop(holdsAny c M r ∗ (holds c M r w -∗ Q ⟨⟩)) ⊢ runs c (Prog.lift (.store M r w Finset.univ hx hm) : BodyP F _) Q := by
  unfold holdsAny holds
  iintro ⟨⟨%f, H⟩, Hk⟩
  iapply (run_store_on c M r w (Finset.Subset.refl _) Q)
  isplitl [H]; · iexact H
  iintro H
  iapply Hk
  iexists (M.access r).write (Elt F) f w Finset.univ
  isplitr
  · ipureintro; exact View.read_write_univ (v := M.access r) f w
  iexact H

/-! ## The steps of the protocol -/

variable (I : Inp F) (K : GSem nD τ sig → ℕ)

/-- A barrier cell's invariant, and that it is open. -/
def knownBar (d : Dev nD) : sProp 𝕄 := iprop(cellInv ER (talk I) (K (barCell d)) (barCell d) ∗ reached ER (barCell d) 0)
/-- The invariants of the two cells of a slot. -/
def knownSlot (x : Dev nD × Fin 4 × Fin 2) : sProp 𝕄 :=
  iprop(cellInv ER (talk I) (K (sendCell x.1 x.2.1 x.2.2)) (sendCell x.1 x.2.1 x.2.2)
    ∗ cellInv ER (talk I) (K (recvCell x.1 x.2.1 x.2.2)) (recvCell x.1 x.2.1 x.2.2))
/-- What every device may consult: the invariant of every cell of the protocol, and that every barrier cell is open. -/
def known : sProp 𝕄 := iprop(bigSep Finset.univ (knownBar I K) ∗ bigSep Finset.univ (knownSlot I K))

instance knownBar_persistent (d : Dev nD) : BI.Persistent (knownBar I K d) := by unfold knownBar; infer_instance
instance knownSlot_persistent (x : Dev nD × Fin 4 × Fin 2) : BI.Persistent (knownSlot I K x) := by unfold knownSlot; infer_instance
instance known_persistent : BI.Persistent (known I K) := by unfold known; infer_instance

theorem known_bar (d : Dev nD) : known I K ⊢ iprop(cellInv ER (talk I) (K (barCell d)) (barCell d) ∗ reached ER (barCell d) 0) := by
  have h : bigSep Finset.univ (knownBar I K) ⊢ iprop(cellInv ER (talk I) (K (barCell d)) (barCell d) ∗ reached ER (barCell d) 0) := bigSep_elim (Finset.mem_univ d)
  unfold known
  iintro ⟨H, -⟩
  iapply h $$ H

theorem known_slot (d : Dev nD) (p : Fin 4) (b : Fin 2) :
    known I K ⊢ iprop(cellInv ER (talk I) (K (sendCell d p b)) (sendCell d p b) ∗ cellInv ER (talk I) (K (recvCell d p b)) (recvCell d p b)) := by
  have h : bigSep Finset.univ (knownSlot I K) ⊢ iprop(cellInv ER (talk I) (K (sendCell d p b)) (sendCell d p b) ∗ cellInv ER (talk I) (K (recvCell d p b)) (recvCell d p b)) :=
    bigSep_elim (Finset.mem_univ (d, p, b))
  unfold known
  iintro ⟨-, H⟩
  iapply h $$ H

/-- A receive slot of device `c` as handed to the partner that will write it: at any contents, its cell open. -/
def offer (p : Fin 4) (b : Fin 2) : sProp 𝕄 := iprop(holdsAny c recvM (slotR p b) ∗ reached ER (recvCell c p b) 0)

/-- The signal to the partner along bit `j`: the two slots that partner will write are handed over. -/
theorem run_signal (j : Fin 4) (l : List (GSem nD τ sig × ℕ)) (n : Dev nD) (hn : n = partner j c) (Q : PUnit → sProp 𝕄) :
    iprop(known I K ∗ (∃ W, owes (c : Thread nD τ) (owed (dueBar c j :: l)) W) ∗ dutyTok ER (barCell (partner j c)) 0 j
        ∗ (offer c j 0 ∗ offer c j.rev 1) ∗ ((∃ W, owes (c : Thread nD τ) (owed l) W) -∗ Q ⟨⟩))
      ⊢ runs c (semSignalWord n barS 1#32) Q := by
  subst hn
  unfold runs semSignalWord
  iintro ⟨#HI, ⟨%W, HO⟩, Ht, Hs, Hk⟩
  icases (known_bar I K (partner j c)) $$ HI with ⟨HIp, HRp⟩
  iapply (Rounds.wp_signal 𝒱₀ ER (talk I) (c : Thread nD τ) none (dst := (partner j c : Thread nD τ)) (sem := barS) (r := 0) (d := j)
      (κ := K (barCell (partner j c))) (by rw [duties_bar]; exact Finset.mem_univ _) (amount_bar I (partner j c) j) () (owed l) rfl)
    $$ [HO Ht Hs]
  · isplitr; · iexact HIp
    isplitl [HO]; · iexact HO
    isplitl [Ht]; · iexact Ht
    isplitl [Hs]
    · rw [payload_bar]; unfold barPay offer; rw [partner_partner]; iexact Hs
    · iexact HRp
  iintro HO
  iapply (run_ret c)
  iapply Hk
  iexists W; iexact HO

/-- The wait at the barrier, the copies still owed: every partner's slots come. -/
theorem run_meet (Q : PUnit → sProp 𝕄) :
    iprop(known I K ∗ levAts L lv ∗ (∃ W, owes (c : Thread nD τ) (owed (copies c)) W) ∗ cred (tallyAt (barCell c) () 4) ∗ atPos ER (barCell c) 0 ∅ 0
        ∗ (((∃ W, owes (c : Thread nD τ) (owed (copies c)) W) ∗ atPos ER (barCell c) 1 ∅ 0 ∗ bigSep Finset.univ fun j => barPay c j) -∗ Q ⟨⟩))
      ⊢ runs c (semWaitWord barS 4#32) Q := by
  unfold runs semWaitWord
  iintro ⟨#HI, #Hlev, ⟨%W, HO⟩, Hc, Hat, Hk⟩
  icases (known_bar I K c) $$ HI with ⟨HIc, -⟩
  iapply (Rounds.wp_wait_rest_token 𝒱₀ ER (talk I) (c : Thread nD τ) none (κ := K (barCell c))
      (wpE_semWait_eq 𝒱₀ (c : Thread nD τ) none Set.univ) (Set.mem_univ _) () (O := owed (copies c)) (W := W) (R := 0) (m := 0) (T := ∅)
      ((Nat.zero_add _).trans (expect_bar I c).symm)) $$ [Hc HO Hat]
  · isplitr; · iexact HIc
    isplitl [Hc]; · iexact Hc
    isplitl [HO]; · iexact HO
    isplitr
    · iapply (mayWait c (.reg barS) (copies c) (by
        simp only [List.mem_cons, List.not_mem_nil, or_false]
        rintro x (rfl | rfl | rfl | rfl | rfl | rfl | rfl | rfl) <;> exact ⟨rfl, by rw [lv_bar, lv_recv]; decide⟩))
      iexact Hlev
    iexact Hat
  iintro ⟨HO, Hat, -, Hpay⟩
  iapply (run_ret c)
  iapply Hk
  isplitl [HO]; · iexists _; iexact HO
  isplitl [Hat]; · iexact Hat
  iapply (Entails.of_eq (rest_bar I c)) $$ Hpay

/-- What a copy reads is what the rectangle it copies reads, in the copy's shape. -/
theorem sendV_read (p : Fin 4) (b : Fin 2) (f : sendM.view.ty.Contents (Elt F)) (i : S128x512.Idx) :
    (sendV p b).view.read (Elt F) f i = (sendM.access (slotR p b)).read (Elt F) f (Shape.reshapeEquiv squeezes_S1x1x128x512_S128x512.numel_eq i) := rfl

theorem recv_landed (p : Fin 4) (b : Fin 2) (fd : recvM.view.ty.Contents (Elt F)) (fs : sendM.view.ty.Contents (Elt F)) :
    (recvM.access (slotR p b)).read (Elt F) ((recvV p b).view.write (Elt F) fd ((sendV p b).view.read (Elt F) fs) Finset.univ)
      = (sendM.access (slotR p b)).read (Elt F) fs := by
  funext x
  obtain ⟨i, rfl⟩ := (Shape.reshapeEquiv squeezes_S1x1x128x512_S128x512.numel_eq).surjective x
  exact View.read_write_reshape (recvM.access (slotR p b)) squeezes_S1x1x128x512_S128x512.numel_eq fd ((sendV p b).view.read (Elt F) fs) i

theorem sendV_set (p : Fin 4) (b : Fin 2) : (sendV p b).view.set = (sendM.access (slotR p b)).set := View.set_reshape _ _
theorem recvV_set (p : Fin 4) (b : Fin 2) : (recvV p b).view.set = (recvM.access (slotR p b)).set := View.set_reshape _ _

/-- The copy of send slot `(p, b)` to the peer: it pays the peer's receive duty, and its own send duty. -/
theorem run_copy (p : Fin 4) (b : Fin 2) (l : List (GSem nD τ sig × ℕ)) (n : Dev nD) (hn : n = peer p b c) (Q : PUnit → sProp 𝕄) :
    iprop(known I K ∗ (∃ W, owes (c : Thread nD τ) (owed (dueCopy c p b :: l)) W) ∗ dutyTok ER (sendCell c p b) 0 0 ∗ reached ER (sendCell c p b) 0
        ∗ dutyTok ER (recvCell (peer p b c) p b) 0 0 ∗ offer (peer p b c) p b ∗ holds c sendM (slotR p b) (I.sentV c p b)
        ∗ (((∃ W, owes (c : Thread nD τ) (owed l) W) ∗ cred (tallyAt (sendCell c p b) () N)) -∗ Q ⟨⟩))
      ⊢ runs c (copyP p b n) Q := by
  subst hn
  unfold runs copyP Prog.lift holds offer holdsAny
  iintro ⟨#HI, ⟨%W, HO⟩, HtS, #HrS, HtR, ⟨⟨%fd, Hd⟩, #HrR⟩, ⟨%fs, %hfs, Hs⟩, Hk⟩
  icases (known_slot I K c p b) $$ HI with ⟨HIs, -⟩
  icases (known_slot I K (peer p b c) p b) $$ HI with ⟨-, HIr⟩
  iapply (Rounds.wp_send_pointsTo 𝒱₀ ER (talk I) (c : Thread nD τ) none (c' := (peer p b c : Thread nD τ)) (src := sendV p b) (dst := recvV p b)
      (sS := .dma (sendS p b)) (sem := .dma (recvS p b)) (q := fullShare) (fs := fs) (κ₁ := K (sendCell c p b)) (κ₂ := K (recvCell (peer p b c) p b))
      (r₁ := 0) (r₂ := 0) (d₁ := 0) (d₂ := 0) (fd := fd)
      (by rw [duties_send]; exact Finset.mem_singleton_self _) (by rw [duties_recv]; exact Finset.mem_singleton_self _)
      () () N rfl (amount_send I c p b 0) (amount_recv I (peer p b c) p b 0) (owed l) rfl (W := W)
      (by
        rw [payload_send, sendV_set]; unfold holdsAny
        iintro H; iexists fs; iexact H)
      (by
        rw [payload_recv, recvV_set]; unfold holds
        iintro H
        iexists _
        isplitr
        · ipureintro; exact (recv_landed p b fd fs).trans (by rw [hfs, peer, peer, partner_partner])
        iexact H)) $$ [HO HtS HtR Hd Hs]
  · isplitr; · iexact HIs
    isplitr; · iexact HIr
    isplitl [Hs]; · rw [sendV_set]; iexact Hs
    isplitl [Hd]; · rw [recvV_set]; iexact Hd
    isplitl [HO]; · iexact HO
    isplitl [HtS]; · iexact HtS
    isplitr; · iexact HrS
    isplitl [HtR]; · iexact HtR
    iexact HrR
  iintro ⟨Hc, HO⟩
  iapply (run_ret c)
  iapply Hk
  isplitl [HO]; · iexists W; iexact HO
  iexact Hc

/-- The wait for the peer's copy, what is owed being above it: the slot comes, holding what the peer sent. -/
theorem run_recv (p : Fin 4) (b : Fin 2) (l : List (GSem nD τ sig × ℕ))
    (hl : ∀ x ∈ l, x.1.1.2 = .tc ∧ 2 + 2 * p.val + b.val < lv x.1 ()) (Q : PUnit → sProp 𝕄) :
    iprop(known I K ∗ levAts L lv ∗ (∃ W, owes (c : Thread nD τ) (owed l) W) ∗ cred (tallyAt (recvCell c p b) () N) ∗ atPos ER (recvCell c p b) 0 ∅ 0
        ∗ (((∃ W, owes (c : Thread nD τ) (owed l) W) ∗ atPos ER (recvCell c p b) 1 ∅ 0
            ∗ holds c recvM (slotR p b) (I.sentV (peer p b c) p b)) -∗ Q ⟨⟩))
      ⊢ runs c (recvP p b) Q := by
  unfold runs recvP Prog.lift
  iintro ⟨#HI, #Hlev, ⟨%W, HO⟩, Hc, Hat, Hk⟩
  icases (known_slot I K c p b) $$ HI with ⟨-, HIr⟩
  iapply (Rounds.wp_wait_rest_token 𝒱₀ ER (talk I) (c : Thread nD τ) none (κ := K (recvCell c p b))
      (wpE_waitDma2_eq (src := sendV p b) (dst := recvV p b) 𝒱₀ (c : Thread nD τ) none Set.univ) (Set.mem_univ _) () (O := owed l) (W := W) (R := 0)
      (m := 0) (T := ∅) ((Nat.zero_add _).trans (expect_recv I c p b).symm)) $$ [Hc HO Hat]
  · isplitr; · iexact HIr
    isplitl [Hc]; · iexact Hc
    isplitl [HO]; · iexact HO
    isplitr
    · iapply (mayWait c (.dma (recvS p b)) l (fun x hx => ⟨(hl x hx).1, by rw [lv_recv]; exact (hl x hx).2⟩))
      iexact Hlev
    iexact Hat
  iintro ⟨HO, Hat, -, Hpay⟩
  iapply (run_ret c)
  iapply Hk
  isplitl [HO]; · iexists _; iexact HO
  isplitl [Hat]; · iexact Hat
  iapply (Entails.of_eq (rest_recv I c p b)) $$ Hpay

/-- The wait for the device's own copy, nothing owed any more: the send slot comes back. -/
theorem run_sent (p : Fin 4) (b : Fin 2) (Q : PUnit → sProp 𝕄) :
    iprop(known I K ∗ (∃ W, owes (c : Thread nD τ) (owed []) W) ∗ cred (tallyAt (sendCell c p b) () N) ∗ atPos ER (sendCell c p b) 0 ∅ 0
        ∗ (((∃ W, owes (c : Thread nD τ) (owed []) W) ∗ atPos ER (sendCell c p b) 1 ∅ 0 ∗ holdsAny c sendM (slotR p b)) -∗ Q ⟨⟩))
      ⊢ runs c (sentP p b) Q := by
  unfold runs sentP Prog.lift
  iintro ⟨#HI, ⟨%W, HO⟩, Hc, Hat, Hk⟩
  icases (known_slot I K c p b) $$ HI with ⟨HIs, -⟩
  iapply (Rounds.wp_wait_rest_token 𝒱₀ ER (talk I) (c : Thread nD τ) none (κ := K (sendCell c p b))
      (wpE_waitDma2_eq (src := recvV p b) (dst := sendV p b) 𝒱₀ (c : Thread nD τ) none Set.univ) (Set.mem_univ _) () (O := 0) (W := W) (R := 0)
      (m := 0) (T := ∅) ((Nat.zero_add _).trans (expect_send I c p b).symm)) $$ [Hc HO Hat]
  · isplitr; · iexact HIs
    isplitl [Hc]; · iexact Hc
    isplitl [HO]; · iexact HO
    isplitr; · rw [MayWait_zero]; iempintro
    iexact Hat
  iintro ⟨HO, Hat, -, Hpay⟩
  iapply (run_ret c)
  iapply Hk
  isplitl [HO]; · iexists _; iexact HO
  isplitl [Hat]; · iexact Hat
  iapply (Entails.of_eq (rest_send I c p b)) $$ Hpay

end Cert.KernelIdeal.Sum

end
-- ==== Proof.Body.lean ====
/-
  The run of the body at a symbolic device: the blocks of `Flat`, each by the rules of `Steps`, in sequence.
-/
module

public import proofs.«01_k».proof.Proof.Steps
public import Idealize.ShloMosaic.Lib.ReshapeSlab

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The context buffer -/

/-- The context buffer with head `h`'s columns of row `b` rewritten. -/
abbrev putCol (b : Fin 2) (h : Fin 4) (w : Vec F S1x128x64 .bf16) (f : ctxM.view.ty.Contents (Elt F)) : ctxM.view.ty.Contents (Elt F) :=
  (ctxM.access (colR b h)).write (Elt F) f w Finset.univ

/-- What row `b` of the context reads at a column is what the column's head reads. -/
theorem ctx_col (b : Fin 2) (f : ctxM.view.ty.Contents (Elt F)) (i : S1x128x256.Idx) :
    (ctxM.access (ctxR b)).read (Elt F) f i = (ctxM.access (colR b (headOf i))).read (Elt F) f (inHead i) := by
  have h : ∀ a : Fin 3, (((ctxR b).emb i) a : ℕ) = (((colR b (headOf i)).emb (inHead i)) a : ℕ) := by
    intro a
    rw [Rect.emb_apply, Rect.emb_apply]
    fin_cases a
    · rfl
    · rfl
    · show 0 + 1 * (i 2).val = 64 * ((i 2).val / 64) + 1 * ((i 2).val % 64)
      omega
  exact congrArg (fun x : S2x128x256.Idx => (ctxM.view.read (Elt F) f) x) (funext fun a => Fin.ext (h a))

theorem col_same (b : Fin 2) (h : Fin 4) (w : Vec F S1x128x64 .bf16) (f : ctxM.view.ty.Contents (Elt F)) :
    (ctxM.access (colR b h)).read (Elt F) (putCol b h w f) = w := View.read_write_univ (v := ctxM.access (colR b h)) f w

theorem col_other (b : Fin 2) (h h' : Fin 4) (hh : h ≠ h') (w : Vec F S1x128x64 .bf16) (f : ctxM.view.ty.Contents (Elt F)) :
    (ctxM.access (colR b h)).read (Elt F) (putCol b h' w f) = (ctxM.access (colR b h)).read (Elt F) f :=
  View.read_slice_write_slice_of_disjoint (v := ctxM.view) (colR b h) (colR b h') f w Finset.univ
    (View.disjoint_slice_of_sep ctxM.view (colR b h) (colR b h') 2 rfl rfl (by
      show 64 * h.val + 64 ≤ 64 * h'.val ∨ 64 * h'.val + 64 ≤ 64 * h.val
      have : h.val ≠ h'.val := fun e => hh (Fin.ext e)
      omega))

/-- After its four heads are stored, a row of the context reads as the heads side by side. -/
theorem ctx_read (b : Fin 2) (hs : Fin 4 → Vec F S1x128x64 .bf16) (f : ctxM.view.ty.Contents (Elt F)) :
    (ctxM.access (ctxR b)).read (Elt F) (putCol b 3 (hs 3) (putCol b 2 (hs 2) (putCol b 1 (hs 1) (putCol b 0 (hs 0) f)))) = catV hs := by
  have key : ∀ h : Fin 4, (ctxM.access (colR b h)).read (Elt F)
      (putCol b 3 (hs 3) (putCol b 2 (hs 2) (putCol b 1 (hs 1) (putCol b 0 (hs 0) f)))) = hs h := by
    intro h
    fin_cases h
    · exact (col_other b 0 3 (by decide) _ _).trans ((col_other b 0 2 (by decide) _ _).trans ((col_other b 0 1 (by decide) _ _).trans (col_same b 0 _ _)))
    · exact (col_other b 1 3 (by decide) _ _).trans ((col_other b 1 2 (by decide) _ _).trans (col_same b 1 _ _))
    · exact (col_other b 2 3 (by decide) _ _).trans (col_same b 2 _ _)
    · exact col_same b 3 _ _
  funext i
  rw [ctx_col, key]
  rfl

/-! ## The attention -/

variable (I : Inp F) (K : GSem nD τ sig → ℕ) (c : Dev nD)

/-- A whole buffer of device `c`, at `f`. -/
abbrev full {s : Shape} {e : EltTy} (M : Memref sig .tc .vmem s e) (f : Buf (Elt F) (M.view.loc (c : Thread nD τ))) : sProp 𝕄 :=
  M.view.loc (c : Thread nD τ) ↦{fullShare} f

/-- The staged inputs of device `c`. -/
def inputs : sProp 𝕄 :=
  iprop(full c xM (I.x c) ∗ full c wqM (I.wq c) ∗ full c kM (I.k c) ∗ full c vM (I.v c) ∗ full c woM (I.wo c))

/-- One head: its context columns are stored. -/
theorem run_head (b : Fin 2) (h : Fin 4) (f : ctxM.view.ty.Contents (Elt F)) (Q : PUnit → sProp 𝕄) :
    iprop(inputs I c ∗ full c ctxM f ∗ ((inputs I c ∗ full c ctxM (putCol b h (I.head c b h) f)) -∗ Q ⟨⟩))
      ⊢ runs c (headP b h (qV (I.wq c) (I.xRow c b))) Q := by
  unfold headP inputs
  rw [run_seq]
  iintro ⟨⟨Hx, Hwq, Hk, Hv, Hwo⟩, Hc, Hcont⟩
  iapply (run_load_on c kM (headR b h) (Finset.subset_univ _) _)
  isplitl [Hk]; · iexact Hk
  iintro Hk
  rw [run_seq]
  iapply (run_load_on c vM (headR b h) (Finset.subset_univ _) _)
  isplitl [Hv]; · iexact Hv
  iintro Hv
  rw [run_seq]
  iapply (run_load_on c ctxM (colR b h) (Finset.subset_univ _) _)
  isplitl [Hc]; · iexact Hc
  iintro Hc
  iapply (run_store_on c ctxM (colR b h) _ (Finset.subset_univ _) _)
  isplitl [Hc]; · iexact Hc
  iintro Hc
  iapply Hcont
  isplitr [Hc]
  · isplitl [Hx]; · iexact Hx
    isplitl [Hwq]; · iexact Hwq
    isplitl [Hk]; · iexact Hk
    isplitl [Hv] <;> iassumption
  iexact Hc

/-- The projection of a row whose context reads `ctx`. -/
theorem run_proj (b : Fin 2) (f : ctxM.view.ty.Contents (Elt F)) (Q : PUnit → sProp 𝕄) :
    iprop(full c ctxM f ∗ holdsAny c accM (rowR b) ∗ holdsAny c sendM (slotR 0 b)
        ∗ ((full c ctxM f ∗ holds c accM (rowR b) (rowV (projV (I.wo c) ((ctxM.access (ctxR b)).read (Elt F) f)))
            ∗ holds c sendM (slotR 0 b) (packV (projV (I.wo c) ((ctxM.access (ctxR b)).read (Elt F) f)))) -∗ Q ⟨⟩))
      ⊢ runs c (projP b (I.wo c)) Q := by
  unfold projP
  rw [run_seq]
  iintro ⟨Hc, Ha, Hs, Hcont⟩
  iapply (run_load_on c ctxM (ctxR b) (Finset.subset_univ _) _)
  isplitl [Hc]; · iexact Hc
  iintro Hc
  rw [run_seq]
  iapply (run_load_any c accM (rowR b) _)
  isplitl [Ha]; · iexact Ha
  iintro %v Ha
  rw [run_seq]
  iapply (run_store c accM (rowR b) _ _)
  isplitl [Ha]; · iexact Ha
  iintro Ha
  rw [run_seq]
  iapply (run_load_any c sendM (slotR 0 b) _)
  isplitl [Hs]; · iexact Hs
  iintro %v' Hs
  iapply (run_store c sendM (slotR 0 b) _ _)
  isplitl [Hs]; · iexact Hs
  iintro Hs
  iapply Hcont
  isplitl [Hc]; · iexact Hc
  isplitl [Ha] <;> iassumption

/-- A row's attention: its own summand in the accumulator and, rounded, in the first send slot. -/
theorem run_attn (b : Fin 2) (Q : PUnit → sProp 𝕄) :
    iprop(inputs I c ∗ (∃ f, full c ctxM f) ∗ holdsAny c accM (rowR b) ∗ holdsAny c sendM (slotR 0 b)
        ∗ ((inputs I c ∗ (∃ f, full c ctxM f) ∗ holds c accM (rowR b) (rowV (I.acc 0 c b)) ∗ holds c sendM (slotR 0 b) (I.sentV c 0 b)) -∗ Q ⟨⟩))
      ⊢ runs c (attnP b (I.wq c) (I.wo c)) Q := by
  unfold attnP
  rw [run_seq]
  iintro ⟨Hin, ⟨%f, Hc⟩, Ha, Hs, Hcont⟩
  icases (show inputs I c ⊢ iprop(full c xM (I.x c) ∗ full c wqM (I.wq c) ∗ full c kM (I.k c) ∗ full c vM (I.v c) ∗ full c woM (I.wo c)) from
    .rfl) $$ Hin with ⟨Hx, Hrest⟩
  iapply (run_load_on c xM (rowR b) (Finset.subset_univ _) _)
  isplitl [Hx]; · iexact Hx
  iintro Hx
  ihave Hin := (show iprop(full c xM (I.x c) ∗ full c wqM (I.wq c) ∗ full c kM (I.k c) ∗ full c vM (I.v c) ∗ full c woM (I.wo c)) ⊢ inputs I c from
    .rfl) $$ [Hx Hrest]
  · isplitl [Hx] <;> iassumption
  rw [run_seq]
  iapply (run_head I c b 0 f _)
  isplitl [Hin]; · iexact Hin
  isplitl [Hc]; · iexact Hc
  iintro ⟨Hin, Hc⟩
  rw [run_seq]
  iapply (run_head I c b 1 _ _)
  isplitl [Hin]; · iexact Hin
  isplitl [Hc]; · iexact Hc
  iintro ⟨Hin, Hc⟩
  rw [run_seq]
  iapply (run_head I c b 2 _ _)
  isplitl [Hin]; · iexact Hin
  isplitl [Hc]; · iexact Hc
  iintro ⟨Hin, Hc⟩
  rw [run_seq]
  iapply (run_head I c b 3 _ _)
  isplitl [Hin]; · iexact Hin
  isplitl [Hc]; · iexact Hc
  iintro ⟨Hin, Hc⟩
  iapply (run_proj I c b _ _)
  isplitl [Hc]; · iexact Hc
  isplitl [Ha]; · iexact Ha
  isplitl [Hs]; · iexact Hs
  rw [ctx_read b (I.head c b)]
  iintro ⟨Hc, Ha, Hs⟩
  iapply Hcont
  isplitl [Hin]; · iexact Hin
  isplitl [Hc]; · iexists _; iexact Hc
  isplitl [Ha]; · iexact Ha
  iexact Hs

/-! ## The exchange -/

/-- What the copy out of slot `(p, b)` needs besides the slot: the two duties it pays, and the peer's slot. -/
def ticket (p : Fin 4) (b : Fin 2) : sProp 𝕄 :=
  iprop(dutyTok ER (sendCell c p b) 0 0 ∗ reached ER (sendCell c p b) 0 ∗ dutyTok ER (recvCell (peer p b c) p b) 0 0)

/-- What the wait for the peer's copy needs. -/
def await (p : Fin 4) (b : Fin 2) : sProp 𝕄 := iprop(cred (tallyAt (recvCell c p b) () N) ∗ atPos ER (recvCell c p b) 0 ∅ 0)

/-- The debt of device `c`. -/
def debt (l : List (GSem nD τ sig × ℕ)) : sProp 𝕄 := iprop(∃ W, owes (c : Thread nD τ) (owed l) W)

theorem run_copied (p : Fin 4) (b : Fin 2) (l : List (GSem nD τ sig × ℕ)) (Q : PUnit → sProp 𝕄) :
    iprop(known I K ∗ debt c (dueCopy c p b :: l) ∗ ticket c p b ∗ offer (peer p b c) p b ∗ holds c sendM (slotR p b) (I.sentV c p b)
        ∗ ((debt c l ∗ cred (tallyAt (sendCell c p b) () N)) -∗ Q ⟨⟩))
      ⊢ runs c (copyP p b (target c p b)) Q := by
  unfold ticket debt
  iintro ⟨#HI, HO, ⟨HtS, HrS, HtR⟩, Hoff, Hs, Hk⟩
  iapply (run_copy c I K p b l (target c p b) (target_eq c p b) Q)
  isplitr; · iexact HI
  isplitl [HO]; · iexact HO
  isplitl [HtS]; · iexact HtS
  isplitl [HrS]; · iexact HrS
  isplitl [HtR]; · iexact HtR
  isplitl [Hoff]; · iexact Hoff
  isplitl [Hs]; · iexact Hs
  iexact Hk

/-- One step of the sum at a row. -/
theorem run_step (p p' : Fin 4) (hp : p'.val = p.val + 1) (b : Fin 2) (Q : PUnit → sProp 𝕄) :
    iprop(holds c accM (rowR b) (rowV (I.acc p.val c b)) ∗ holds c recvM (slotR p b) (I.sentV (peer p b c) p b) ∗ holdsAny c sendM (slotR p' b)
        ∗ ((holds c accM (rowR b) (rowV (I.acc p'.val c b)) ∗ holdsAny c recvM (slotR p b) ∗ holds c sendM (slotR p' b) (I.sentV c p' b)) -∗ Q ⟨⟩))
      ⊢ runs c (stepP p p' b) Q := by
  unfold stepP
  rw [run_seq]
  iintro ⟨Ha, Hr, Hs, Hcont⟩
  iapply (run_load c accM (rowR b) _ _)
  isplitl [Ha]; · iexact Ha
  iintro Ha
  rw [run_seq]
  iapply (run_load c recvM (slotR p b) _ _)
  isplitl [Hr]; · iexact Hr
  iintro Hr
  rw [run_seq]
  iapply (run_load c accM (rowR b) _ _)
  isplitl [Ha]; · iexact Ha
  iintro Ha
  rw [run_seq]
  iapply (run_store c accM (rowR b) _ _)
  isplitl [Ha]; · iapply (holds_any c accM (rowR b) _) $$ Ha
  iintro Ha
  rw [run_seq]
  iapply (run_load_any c sendM (slotR p' b) _)
  isplitl [Hs]; · iexact Hs
  iintro %v Hs
  iapply (run_store c sendM (slotR p' b) _ _)
  isplitl [Hs]; · iexact Hs
  iintro Hs
  iapply Hcont
  rw [← I.acc_succ p p' hp c b]
  isplitl [Ha]; · iexact Ha
  isplitl [Hr]; · iapply (holds_any c recvM (slotR p b) _) $$ Hr
  unfold Inp.sentV
  iexact Hs

/-- One phase at a row. -/
theorem run_phase (p p' : Fin 4) (hp : p'.val = p.val + 1) (b : Fin 2) (l : List (GSem nD τ sig × ℕ))
    (hl : ∀ x ∈ dueCopy c p' b :: l, x.1.1.2 = .tc ∧ 2 + 2 * p.val + b.val < lv x.1 ()) (Q : PUnit → sProp 𝕄) :
    iprop(known I K ∗ levAts L lv ∗ debt c (dueCopy c p' b :: l) ∗ await c p b ∗ holds c accM (rowR b) (rowV (I.acc p.val c b))
        ∗ holdsAny c sendM (slotR p' b) ∗ ticket c p' b ∗ offer (peer p' b c) p' b
        ∗ ((debt c l ∗ atPos ER (recvCell c p b) 1 ∅ 0 ∗ holdsAny c recvM (slotR p b) ∗ holds c accM (rowR b) (rowV (I.acc p'.val c b))
            ∗ cred (tallyAt (sendCell c p' b) () N)) -∗ Q ⟨⟩))
      ⊢ runs c (phaseP c p p' b) Q := by
  unfold phaseP await
  rw [run_seq]
  iintro ⟨#HI, #Hlev, HO, ⟨Hcr, Hat⟩, Ha, Hs, Ht, Hoff, Hcont⟩
  iapply (run_recv c I K p b _ hl _)
  isplitr; · iexact HI
  isplitr; · iexact Hlev
  isplitl [HO]; · unfold debt; iexact HO
  isplitl [Hcr]; · iexact Hcr
  isplitl [Hat]; · iexact Hat
  iintro ⟨HO, Hat, Hr⟩
  rw [run_seq]
  iapply (run_step I c p p' hp b _)
  isplitl [Ha]; · iexact Ha
  isplitl [Hr]; · iexact Hr
  isplitl [Hs]; · iexact Hs
  iintro ⟨Ha, Hr, Hs⟩
  iapply (run_copied I K c p' b l _)
  isplitr; · iexact HI
  isplitl [HO]; · unfold debt; iexact HO
  isplitl [Ht]; · iexact Ht
  isplitl [Hoff]; · iexact Hoff
  isplitl [Hs]; · iexact Hs
  iintro ⟨HO, Hc⟩
  iapply Hcont
  isplitl [HO]; · iexact HO
  isplitl [Hat]; · iexact Hat
  isplitl [Hr]; · iexact Hr
  isplitl [Ha] <;> iassumption

/-- The last phase at a row. -/
theorem run_finish (b : Fin 2) (Q : PUnit → sProp 𝕄) :
    iprop(known I K ∗ levAts L lv ∗ debt c [] ∗ await c 3 b ∗ holds c accM (rowR b) (rowV (I.acc 3 c b)) ∗ holdsAny c outM (rowR b)
        ∗ ((debt c [] ∗ atPos ER (recvCell c 3 b) 1 ∅ 0 ∗ holdsAny c recvM (slotR 3 b) ∗ holdsAny c accM (rowR b)
            ∗ holds c outM (rowR b) (I.outRow c b)) -∗ Q ⟨⟩))
      ⊢ runs c (finishP b) Q := by
  unfold finishP await lastP
  rw [run_seq]
  iintro ⟨#HI, #Hlev, HO, ⟨Hcr, Hat⟩, Ha, Ho, Hcont⟩
  iapply (run_recv c I K 3 b [] (fun x hx => absurd hx (List.not_mem_nil)) _)
  isplitr; · iexact HI
  isplitr; · iexact Hlev
  isplitl [HO]; · unfold debt; iexact HO
  isplitl [Hcr]; · iexact Hcr
  isplitl [Hat]; · iexact Hat
  iintro ⟨HO, Hat, Hr⟩
  rw [run_seq]
  iapply (run_load c accM (rowR b) _ _)
  isplitl [Ha]; · iexact Ha
  iintro Ha
  rw [run_seq]
  iapply (run_load c recvM (slotR 3 b) _ _)
  isplitl [Hr]; · iexact Hr
  iintro Hr
  rw [run_seq]
  iapply (run_load_any c outM (rowR b) _)
  isplitl [Ho]; · iexact Ho
  iintro %v Ho
  iapply (run_store c outM (rowR b) _ _)
  isplitl [Ho]; · iexact Ho
  iintro Ho
  iapply Hcont
  isplitl [HO]; · unfold debt; iexact HO
  isplitl [Hat]; · iexact Hat
  isplitl [Hr]; · iapply (holds_any c recvM (slotR 3 b) _) $$ Hr
  isplitl [Ha]; · iapply (holds_any c accM (rowR b) _) $$ Ha
  iexact Ho

end Cert.KernelIdeal.Sum

end
-- ==== Proof.Run.lean ====
/-
  The whole body at a symbolic device: what it needs, what it leaves, and the blocks of `Body` in their order.
-/
module

public import proofs.«01_k».proof.Proof.Body

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

/-- A family over the four bits, written out. -/
theorem over_bits (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over the eight slots, written out. -/
theorem over_slots (Φ : Fin 4 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

variable (I : Inp F) (K : GSem nD τ sig → ℕ) (c : Dev nD)

/-- The eight slots of a buffer, each at any contents. -/
def slots (M : Memref sig .tc .vmem S4x2x128x512 .bf16) : sProp 𝕄 := bigSep Finset.univ fun x : Fin 4 × Fin 2 => holdsAny c M (slotR x.1 x.2)

/-- The two rows of a buffer, each at any contents. -/
def rowsAny {e : EltTy} (M : Memref sig .tc .vmem S2x128x512 e) : sProp 𝕄 := iprop(holdsAny (F := F) c M (rowR 0) ∗ holdsAny c M (rowR 1))

/-! ## The barrier -/

/-- What the signals spend: the four duties' tokens. -/
def barToks : sProp 𝕄 := bigSep Finset.univ fun j : Fin 4 => dutyTok ER (barCell (partner j c)) 0 j

/-- The eight slots offered by their peers. -/
def offers : sProp 𝕄 := bigSep Finset.univ fun x : Fin 4 × Fin 2 => offer (F := F) (peer x.1 x.2 c) x.1 x.2

/-- The partners' payments are the eight peers' slots. -/
theorem barPay_offers : (bigSep Finset.univ fun j : Fin 4 => (barPay c j : sProp 𝕄)) ⊢ offers c := by
  have h0 (j : Fin 4) : barPay (F := F) c j = iprop(offer (peer j 0 c) j 0 ∗ offer (peer j.rev 1 c) j.rev 1) := by
    unfold barPay offer; rw [peer, peer, bit_row0, bit_row1]
  unfold offers
  rw [over_bits, over_slots, h0, h0, h0, h0]
  iintro ⟨⟨H00, H31⟩, ⟨H10, H21⟩, ⟨H20, H11⟩, ⟨H30, H01⟩⟩
  isplitl [H00]; · iexact H00
  isplitl [H01]; · iexact H01
  isplitl [H10]; · iexact H10
  isplitl [H11]; · iexact H11
  isplitl [H20]; · iexact H20
  isplitl [H21]; · iexact H21
  isplitl [H30]; · iexact H30
  iexact H31

/-- The barrier: the device's own slots go to its partners, its peers' slots come. -/
theorem run_barrier (Q : PUnit → sProp 𝕄) :
    iprop(known I K ∗ levAts L lv ∗ debt c (dues c) ∗ cred (tallyAt (barCell c) () 4) ∗ atPos ER (barCell c) 0 ∅ 0 ∗ barToks c
        ∗ (bigSep Finset.univ fun x : Fin 4 × Fin 2 => offer c x.1 x.2)
        ∗ ((debt c (copies c) ∗ atPos ER (barCell c) 1 ∅ 0 ∗ offers c) -∗ Q ⟨⟩))
      ⊢ runs c (meetP c) Q := by
  unfold meetP barToks debt
  rw [over_bits, over_slots, run_seq]
  iintro ⟨#HI, #Hlev, HO, Hc, Hat, ⟨Ht0, Ht1, Ht2, Ht3⟩, ⟨H00, H01, H10, H11, H20, H21, H30, H31⟩, Hcont⟩
  iapply (run_signal c I K 0 _ _ (dev1_eq c) _)
  isplitr; · iexact HI
  isplitl [HO]; · iexact HO
  isplitl [Ht0]; · iexact Ht0
  isplitl [H00 H31]
  · isplitl [H00]; · iexact H00
    iexact H31
  iintro HO
  rw [run_seq]
  iapply (run_signal c I K 1 _ _ (dev2_eq c) _)
  isplitr; · iexact HI
  isplitl [HO]; · iexact HO
  isplitl [Ht1]; · iexact Ht1
  isplitl [H10 H21]
  · isplitl [H10]; · iexact H10
    iexact H21
  iintro HO
  rw [run_seq]
  iapply (run_signal c I K 2 _ _ (dev3_eq c) _)
  isplitr; · iexact HI
  isplitl [HO]; · iexact HO
  isplitl [Ht2]; · iexact Ht2
  isplitl [H20 H11]
  · isplitl [H20]; · iexact H20
    iexact H11
  iintro HO
  rw [run_seq]
  iapply (run_signal c I K 3 _ _ (dev4_eq c) _)
  isplitr; · iexact HI
  isplitl [HO]; · iexact HO
  isplitl [Ht3]; · iexact Ht3
  isplitl [H30 H01]
  · isplitl [H30]; · iexact H30
    iexact H01
  iintro HO
  iapply (run_meet c I K _)
  isplitr; · iexact HI
  isplitr; · iexact Hlev
  isplitl [HO]; · iexact HO
  isplitl [Hc]; · iexact Hc
  isplitl [Hat]; · iexact Hat
  iintro ⟨HO, Hat, Hp⟩
  iapply Hcont
  isplitl [HO]; · iexact HO
  isplitl [Hat]; · iexact Hat
  iapply (barPay_offers c) $$ Hp

/-! ## The attention of both rows -/

theorem read_wq (f : wqM.view.ty.Contents (Elt F)) :
    (wqM.access (Rect.unit (s := S512x256) ![0, 0] S512x256.size inb_S512x256_S512x256_0_0)).read (Elt F) f = f :=
  Memref.read_access_unit_zero (Elt F) cc0_stg1_0 (by decide) inb_S512x256_S512x256_0_0 f
theorem read_wo (f : woM.view.ty.Contents (Elt F)) :
    (woM.access (Rect.unit (s := S256x512) ![0, 0] S256x512.size inb_S256x512_S256x512_0_0)).read (Elt F) f = f :=
  Memref.read_access_unit_zero (Elt F) cc0_stg4_0 (by decide) inb_S256x512_S256x512_0_0 f

theorem run_attns (l : List (GSem nD τ sig × ℕ)) (Q : PUnit → sProp 𝕄) :
    iprop(known I K ∗ debt c (dueCopy c 0 0 :: dueCopy c 0 1 :: l) ∗ inputs I c ∗ (∃ f, full c ctxM f) ∗ rowsAny c accM
        ∗ (holdsAny c sendM (slotR 0 0) ∗ holdsAny c sendM (slotR 0 1)) ∗ (ticket c 0 0 ∗ ticket c 0 1)
        ∗ (offer (peer 0 0 c) 0 0 ∗ offer (peer 0 1 c) 0 1)
        ∗ ((debt c l ∗ inputs I c ∗ (∃ f, full c ctxM f)
            ∗ (holds c accM (rowR 0) (rowV (I.acc 0 c 0)) ∗ holds c accM (rowR 1) (rowV (I.acc 0 c 1)))
            ∗ (cred (tallyAt (sendCell c 0 0) () N) ∗ cred (tallyAt (sendCell c 0 1) () N))) -∗ Q ⟨⟩))
      ⊢ runs c (attnsP c) Q := by
  unfold attnsP rowsAny
  rw [run_seq]
  iintro ⟨#HI, HO, Hin, Hctx, ⟨Ha0, Ha1⟩, ⟨Hs0, Hs1⟩, ⟨Ht0, Ht1⟩, ⟨Hf0, Hf1⟩, Hcont⟩
  icases (show inputs I c ⊢ iprop(full c xM (I.x c) ∗ full c wqM (I.wq c) ∗ full c kM (I.k c) ∗ full c vM (I.v c) ∗ full c woM (I.wo c)) from
    .rfl) $$ Hin with ⟨Hx, Hwq, Hk, Hv, Hwo⟩
  iapply (run_load_on c wqM _ (Finset.subset_univ _) _)
  isplitl [Hwq]; · iexact Hwq
  iintro Hwq
  rw [run_seq]
  iapply (run_load_on c woM _ (Finset.subset_univ _) _)
  isplitl [Hwo]; · iexact Hwo
  iintro Hwo
  rw [read_wq, read_wo, run_seq]
  ihave Hin := (show iprop(full c xM (I.x c) ∗ full c wqM (I.wq c) ∗ full c kM (I.k c) ∗ full c vM (I.v c) ∗ full c woM (I.wo c)) ⊢ inputs I c from
    .rfl) $$ [Hx Hwq Hk Hv Hwo]
  · isplitl [Hx]; · iexact Hx
    isplitl [Hwq]; · iexact Hwq
    isplitl [Hk]; · iexact Hk
    isplitl [Hv] <;> iassumption
  iapply (run_attn I c 0 _)
  isplitl [Hin]; · iexact Hin
  isplitl [Hctx]; · iexact Hctx
  isplitl [Ha0]; · iexact Ha0
  isplitl [Hs0]; · iexact Hs0
  iintro ⟨Hin, Hctx, Ha0, Hs0⟩
  rw [run_seq]
  iapply (run_copied I K c 0 0 _ _)
  isplitr; · iexact HI
  isplitl [HO]; · iexact HO
  isplitl [Ht0]; · iexact Ht0
  isplitl [Hf0]; · iexact Hf0
  isplitl [Hs0]; · iexact Hs0
  iintro ⟨HO, Hc0⟩
  rw [run_seq]
  iapply (run_attn I c 1 _)
  isplitl [Hin]; · iexact Hin
  isplitl [Hctx]; · iexact Hctx
  isplitl [Ha1]; · iexact Ha1
  isplitl [Hs1]; · iexact Hs1
  iintro ⟨Hin, Hctx, Ha1, Hs1⟩
  iapply (run_copied I K c 0 1 _ _)
  isplitr; · iexact HI
  isplitl [HO]; · iexact HO
  isplitl [Ht1]; · iexact Ht1
  isplitl [Hf1]; · iexact Hf1
  isplitl [Hs1]; · iexact Hs1
  iintro ⟨HO, Hc1⟩
  iapply Hcont
  isplitl [HO]; · iexact HO
  isplitl [Hin]; · iexact Hin
  isplitl [Hctx]; · iexact Hctx
  isplitl [Ha0 Ha1]; · isplitl [Ha0] <;> iassumption
  isplitl [Hc0] <;> iassumption

/-! ## The waits for the own copies -/

/-- Before the wait for the own copy out of a slot, and after it. -/
def sentPre (x : Fin 4 × Fin 2) : sProp 𝕄 := iprop(cred (tallyAt (sendCell c x.1 x.2) () N) ∗ atPos ER (sendCell c x.1 x.2) 0 ∅ 0)
def sentPost (x : Fin 4 × Fin 2) : sProp 𝕄 := iprop(atPos ER (sendCell c x.1 x.2) 1 ∅ 0 ∗ holdsAny c sendM (slotR x.1 x.2))

theorem run_sent_one (p : Fin 4) (b : Fin 2) (Q : PUnit → sProp 𝕄) :
    iprop(known I K ∗ debt c [] ∗ sentPre c (p, b) ∗ ((debt c [] ∗ sentPost c (p, b)) -∗ Q ⟨⟩)) ⊢ runs c (sentP p b) Q := by
  unfold sentPre
  iintro ⟨#HI, HO, ⟨Hc, Hat⟩, Hk⟩
  iapply (run_sent c I K p b Q)
  isplitr; · iexact HI
  isplitl [HO]; · unfold debt; iexact HO
  isplitl [Hc]; · iexact Hc
  isplitl [Hat]; · iexact Hat
  iintro ⟨HO, Hat, Hs⟩
  iapply Hk
  isplitl [HO]; · unfold debt; iexact HO
  unfold sentPost
  isplitl [Hat] <;> iassumption

theorem run_drain (Q : PUnit → sProp 𝕄) :
    iprop(known I K ∗ debt c [] ∗ bigSep Finset.univ (sentPre c) ∗ ((debt c [] ∗ bigSep Finset.univ (sentPost c)) -∗ Q ⟨⟩))
      ⊢ runs c (drainP (F := F)) Q := by
  unfold drainP
  rw [over_slots, over_slots, run_seq]
  iintro ⟨#HI, HO, ⟨H0, H1, H2, H3, H4, H5, H6, H7⟩, Hcont⟩
  iapply (run_sent_one I K c 0 0 _)
  isplitr; · iexact HI
  isplitl [HO]; · iexact HO
  isplitl [H0]; · iexact H0
  iintro ⟨HO, H0⟩
  rw [run_seq]
  iapply (run_sent_one I K c 0 1 _)
  isplitr; · iexact HI
  isplitl [HO]; · iexact HO
  isplitl [H1]; · iexact H1
  iintro ⟨HO, H1⟩
  rw [run_seq]
  iapply (run_sent_one I K c 1 0 _)
  isplitr; · iexact HI
  isplitl [HO]; · iexact HO
  isplitl [H2]; · iexact H2
  iintro ⟨HO, H2⟩
  rw [run_seq]
  iapply (run_sent_one I K c 1 1 _)
  isplitr; · iexact HI
  isplitl [HO]; · iexact HO
  isplitl [H3]; · iexact H3
  iintro ⟨HO, H3⟩
  rw [run_seq]
  iapply (run_sent_one I K c 2 0 _)
  isplitr; · iexact HI
  isplitl [HO]; · iexact HO
  isplitl [H4]; · iexact H4
  iintro ⟨HO, H4⟩
  rw [run_seq]
  iapply (run_sent_one I K c 2 1 _)
  isplitr; · iexact HI
  isplitl [HO]; · iexact HO
  isplitl [H5]; · iexact H5
  iintro ⟨HO, H5⟩
  rw [run_seq]
  iapply (run_sent_one I K c 3 0 _)
  isplitr; · iexact HI
  isplitl [HO]; · iexact HO
  isplitl [H6]; · iexact H6
  iintro ⟨HO, H6⟩
  iapply (run_sent_one I K c 3 1 _)
  isplitr; · iexact HI
  isplitl [HO]; · iexact HO
  isplitl [H7]; · iexact H7
  iintro ⟨HO, H7⟩
  iapply Hcont
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The body -/

/-- The copies still to be waited for are above the awaited cell. -/
theorem above (p p' : Fin 4) (b b' : Fin 2) (h : 2 * p.val + b.val < 2 * p'.val + b'.val) :
    (dueCopy c p' b').1.1.2 = .tc ∧ 2 + 2 * p.val + b.val < lv (dueCopy c p' b').1 () :=
  ⟨rfl, by rw [lv_recv]; omega⟩

/-- So are all the copies from the `n`-th on, when the slot is before it. -/
theorem later (p : Fin 4) (b : Fin 2) (n : ℕ) (h : 2 * p.val + b.val < n) :
    ∀ x ∈ (copies c).drop n, x.1.1.2 = .tc ∧ 2 + 2 * p.val + b.val < lv x.1 () := by
  intro x hx
  obtain ⟨i, hi, rfl⟩ := List.mem_iff_getElem.mp hx
  rw [List.getElem_drop]
  have h8 : n + i < 8 := by have := hi; rw [List.length_drop] at this; exact (by change i < 8 - n at this; omega)
  have hall : ∀ k : Fin 8, 2 * p.val + b.val < k.val →
      ((copies c)[k.val]'k.isLt).1.1.2 = .tc ∧ 2 + 2 * p.val + b.val < lv ((copies c)[k.val]'k.isLt).1 () := by
    intro k hk
    fin_cases k <;> exact above c p _ b _ hk
  exact hall ⟨n + i, h8⟩ (by show _ < n + i; omega)

/-- The protocol's resources of a device, in the kernel. -/
def stake : sProp 𝕄 :=
  iprop(cred (tallyAt (barCell c) () 4) ∗ atPos ER (barCell c) 0 ∅ 0 ∗ barToks c
    ∗ (bigSep Finset.univ fun x : Fin 4 × Fin 2 => ticket c x.1 x.2) ∗ (bigSep Finset.univ fun x : Fin 4 × Fin 2 => await c x.1 x.2)
    ∗ (bigSep Finset.univ fun x : Fin 4 × Fin 2 => atPos ER (sendCell c x.1 x.2) 0 ∅ 0))

/-- The positions after the kernel: every cell's one round is over. -/
def settled : sProp 𝕄 :=
  iprop(atPos ER (barCell c) 1 ∅ 0
    ∗ (bigSep Finset.univ fun x : Fin 4 × Fin 2 => atPos ER (sendCell c x.1 x.2) 1 ∅ 0)
    ∗ (bigSep Finset.univ fun x : Fin 4 × Fin 2 => atPos ER (recvCell c x.1 x.2) 1 ∅ 0))

/-- The buffers the body works in besides its inputs and its result. -/
def desk : sProp 𝕄 := iprop((∃ f, full c ctxM f) ∗ rowsAny c accM ∗ slots (F := F) c sendM)

def bodyPre : sProp 𝕄 :=
  iprop(known I K ∗ levAts L lv ∗ debt c (dues c) ∗ stake c ∗ (bigSep Finset.univ fun x : Fin 4 × Fin 2 => offer c x.1 x.2)
    ∗ inputs I c ∗ desk c ∗ rowsAny c outM)

def bodyPost : sProp 𝕄 :=
  iprop(debt c [] ∗ settled c ∗ slots c recvM ∗ inputs I c ∗ desk c
    ∗ (holds c outM (rowR 0) (I.outRow c 0) ∗ holds c outM (rowR 1) (I.outRow c 1)))

set_option maxHeartbeats 1600000 in
theorem run_body (Q : PUnit → sProp 𝕄) : iprop(bodyPre I K c ∗ (bodyPost I c -∗ Q ⟨⟩)) ⊢ runs c (bodyP (F := F)) Q := by
  unfold bodyP bodyPre stake desk slots
  rw [run_seq, over_slots (fun x => ticket c x.1 x.2), over_slots (fun x => await c x.1 x.2), over_slots (fun x => holdsAny c sendM (slotR x.1 x.2)),
    over_slots (fun x => atPos ER (sendCell c x.1 x.2) 0 ∅ 0)]
  iintro ⟨⟨#HI, #Hlev, HO, ⟨Hcb, Hab, Htb, ⟨T0, T1, T2, T3, T4, T5, T6, T7⟩, ⟨W0, W1, W2, W3, W4, W5, W6, W7⟩, ⟨P0, P1, P2, P3, P4, P5, P6, P7⟩⟩,
    Hoff, Hin, ⟨Hctx, Hacc, ⟨S0, S1, S2, S3, S4, S5, S6, S7⟩⟩, Hout⟩, Hcont⟩
  iapply (run_device c _)
  rw [run_seq]
  iapply (run_barrier I K c _)
  isplitr; · iexact HI
  isplitr; · iexact Hlev
  isplitl [HO]; · iexact HO
  isplitl [Hcb]; · iexact Hcb
  isplitl [Hab]; · iexact Hab
  isplitl [Htb]; · iexact Htb
  isplitl [Hoff]; · iexact Hoff
  unfold offers
  rw [over_slots]
  iintro ⟨HO, Hab, ⟨F0, F1, F2, F3, F4, F5, F6, F7⟩⟩
  rw [run_seq]
  iapply (run_attns I K c _ _)
  isplitr; · iexact HI
  isplitl [HO]; · iexact HO
  isplitl [Hin]; · iexact Hin
  isplitl [Hctx]; · iexact Hctx
  isplitl [Hacc]; · iexact Hacc
  isplitl [S0 S1]; · isplitl [S0] <;> iassumption
  isplitl [T0 T1]; · isplitl [T0] <;> iassumption
  isplitl [F0 F1]; · isplitl [F0] <;> iassumption
  iintro ⟨HO, Hin, Hctx, ⟨A0, A1⟩, ⟨C0, C1⟩⟩
  -- phase 0
  rw [run_seq]
  iapply (run_phase I K c 0 1 rfl 0 ((copies c).drop 3) (later c 0 0 2 (by decide)) _)
  isplitr; · iexact HI
  isplitr; · iexact Hlev
  isplitl [HO]; · iexact HO
  isplitl [W0]; · iexact W0
  isplitl [A0]; · iexact A0
  isplitl [S2]; · iexact S2
  isplitl [T2]; · iexact T2
  isplitl [F2]; · iexact F2
  iintro ⟨HO, W0, R0, A0, C2⟩
  rw [run_seq]
  iapply (run_phase I K c 0 1 rfl 1 ((copies c).drop 4) (later c 0 1 3 (by decide)) _)
  isplitr; · iexact HI
  isplitr; · iexact Hlev
  isplitl [HO]; · iexact HO
  isplitl [W1]; · iexact W1
  isplitl [A1]; · iexact A1
  isplitl [S3]; · iexact S3
  isplitl [T3]; · iexact T3
  isplitl [F3]; · iexact F3
  iintro ⟨HO, W1, R1, A1, C3⟩
  -- phase 1
  rw [run_seq]
  iapply (run_phase I K c 1 2 rfl 0 ((copies c).drop 5) (later c 1 0 4 (by decide)) _)
  isplitr; · iexact HI
  isplitr; · iexact Hlev
  isplitl [HO]; · iexact HO
  isplitl [W2]; · iexact W2
  isplitl [A0]; · iexact A0
  isplitl [S4]; · iexact S4
  isplitl [T4]; · iexact T4
  isplitl [F4]; · iexact F4
  iintro ⟨HO, W2, R2, A0, C4⟩
  rw [run_seq]
  iapply (run_phase I K c 1 2 rfl 1 ((copies c).drop 6) (later c 1 1 5 (by decide)) _)
  isplitr; · iexact HI
  isplitr; · iexact Hlev
  isplitl [HO]; · iexact HO
  isplitl [W3]; · iexact W3
  isplitl [A1]; · iexact A1
  isplitl [S5]; · iexact S5
  isplitl [T5]; · iexact T5
  isplitl [F5]; · iexact F5
  iintro ⟨HO, W3, R3, A1, C5⟩
  -- phase 2
  rw [run_seq]
  iapply (run_phase I K c 2 3 rfl 0 ((copies c).drop 7) (later c 2 0 6 (by decide)) _)
  isplitr; · iexact HI
  isplitr; · iexact Hlev
  isplitl [HO]; · iexact HO
  isplitl [W4]; · iexact W4
  isplitl [A0]; · iexact A0
  isplitl [S6]; · iexact S6
  isplitl [T6]; · iexact T6
  isplitl [F6]; · iexact F6
  iintro ⟨HO, W4, R4, A0, C6⟩
  rw [run_seq]
  iapply (run_phase I K c 2 3 rfl 1 ((copies c).drop 8) (later c 2 1 7 (by decide)) _)
  isplitr; · iexact HI
  isplitr; · iexact Hlev
  isplitl [HO]; · iexact HO
  isplitl [W5]; · iexact W5
  isplitl [A1]; · iexact A1
  isplitl [S7]; · iexact S7
  isplitl [T7]; · iexact T7
  isplitl [F7]; · iexact F7
  iintro ⟨HO, W5, R5, A1, C7⟩
  -- the last phase
  unfold rowsAny
  icases Hout with ⟨Ho0, Ho1⟩
  rw [run_seq]
  iapply (run_finish I K c 0 _)
  isplitr; · iexact HI
  isplitr; · iexact Hlev
  isplitl [HO]; · iexact HO
  isplitl [W6]; · iexact W6
  isplitl [A0]; · iexact A0
  isplitl [Ho0]; · iexact Ho0
  iintro ⟨HO, W6, R6, A0, Ho0⟩
  rw [run_seq]
  iapply (run_finish I K c 1 _)
  isplitr; · iexact HI
  isplitr; · iexact Hlev
  isplitl [HO]; · iexact HO
  isplitl [W7]; · iexact W7
  isplitl [A1]; · iexact A1
  isplitl [Ho1]; · iexact Ho1
  iintro ⟨HO, W7, R7, A1, Ho1⟩
  iapply (run_drain I K c _)
  isplitr; · iexact HI
  isplitl [HO]; · iexact HO
  isplitl [C0 C1 C2 C3 C4 C5 C6 C7 P0 P1 P2 P3 P4 P5 P6 P7]
  · rw [over_slots]
    unfold sentPre
    isplitl [C0 P0]; · isplitl [C0] <;> iassumption
    isplitl [C1 P1]; · isplitl [C1] <;> iassumption
    isplitl [C2 P2]; · isplitl [C2] <;> iassumption
    isplitl [C3 P3]; · isplitl [C3] <;> iassumption
    isplitl [C4 P4]; · isplitl [C4] <;> iassumption
    isplitl [C5 P5]; · isplitl [C5] <;> iassumption
    isplitl [C6 P6]; · isplitl [C6] <;> iassumption
    isplitl [C7] <;> iassumption
  iintro ⟨HO, HP⟩
  ihave HP' := (show bigSep Finset.univ (sentPost c) ⊢ iprop((bigSep Finset.univ fun x : Fin 4 × Fin 2 => atPos ER (sendCell c x.1 x.2) 1 ∅ 0) ∗ slots c sendM : sProp 𝕄) from
    Entails.of_eq (bigSep_sep' ..)) $$ HP
  icases HP' with ⟨HP, HS⟩
  iapply Hcont
  unfold bodyPost settled desk slots rowsAny
  rw [over_slots (fun x => atPos ER (recvCell c x.1 x.2) 1 ∅ 0), over_slots (fun x => holdsAny c recvM (slotR x.1 x.2))]
  isplitl [HO]; · iexact HO
  isplitl [Hab HP W0 W1 W2 W3 W4 W5 W6 W7]
  · isplitl [Hab]; · iexact Hab
    isplitl [HP]; · iexact HP
    isplitl [W0]; · iexact W0
    isplitl [W1]; · iexact W1
    isplitl [W2]; · iexact W2
    isplitl [W3]; · iexact W3
    isplitl [W4]; · iexact W4
    isplitl [W5]; · iexact W5
    isplitl [W6] <;> iassumption
  isplitl [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6] <;> iassumption
  isplitl [Hin]; · iexact Hin
  isplitl [Hctx A0 A1 HS]
  · isplitl [Hctx]; · iexact Hctx
    isplitl [A0 A1]; · isplitl [A0] <;> iassumption
    iexact HS
  isplitl [Ho0] <;> iassumption

end Cert.KernelIdeal.Sum

end
-- ==== Proof.Shares.lean ====
/-
  A whole buffer as the rectangles it is cut into, and back.
-/
module

public import proofs.«01_k».proof.Proof.Run

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Cutting a buffer -/

section Cut

variable {T : Type} [Fintype T] [DecidableEq T] (c : Dev nD) {s : Shape} {e : EltTy} (M : Memref sig .tc .vmem s e) (R : T → Rect s)

/-- The rectangles cut the buffer: no element is in two, every element is in one. -/
structure Cuts : Prop where
  apart : ∀ t t', t ≠ t' → Disjoint (M.access (R t)).set (M.access (R t')).set
  all : ∀ i : M.view.ty.shape.Idx, ∃ t, i ∈ (M.access (R t)).set

/-- The elements of a rectangle. -/
abbrev part (t : T) : Finset (Idx (M.view.loc (c : Thread nD τ))) := (M.access (R t)).set

/-- A rectangle held at contents that read as `P` says. -/
def holdsP (r : Rect s) (P : (r.shape.Idx → Elt F e) → Prop) : sProp 𝕄 :=
  iprop(∃ f : Buf (Elt F) ((M.access r).loc (c : Thread nD τ)), ⌜P ((M.access r).read (Elt F) f)⌝
    ∗ (M.access r).loc (c : Thread nD τ) ↦[(M.access r).set]{fullShare} f)

theorem holdsP_out (r : Rect s) (P : (r.shape.Idx → Elt F e) → Prop) :
    holdsP c M r P ⊢ iprop(∃ f : Buf (Elt F) (M.view.loc (c : Thread nD τ)), ⌜P ((M.access r).read (Elt F) f)⌝
      ∗ (M.view.loc (c : Thread nD τ) ↦[(M.access r).set]{fullShare} f) : sProp 𝕄) := .rfl
theorem holdsAny_in (r : Rect s) (f : Buf (Elt F) (M.view.loc (c : Thread nD τ))) :
    (M.view.loc (c : Thread nD τ) ↦[(M.access r).set]{fullShare} f : sProp 𝕄) ⊢ holdsAny (F := F) c M r := by
  unfold holdsAny
  iintro H
  iexists f
  iexact H
theorem holdsAny_P (r : Rect s) : holdsAny (F := F) c M r ⊢ (holdsP c M r fun _ => True : sProp 𝕄) := by
  unfold holdsAny holdsP
  iintro ⟨%f, H⟩
  iexists f
  isplitr; · ipureintro; trivial
  iexact H

variable {M R} (h : Cuts M R)
include h

theorem Cuts.covers : (Finset.univ.biUnion (part c M R)) = Finset.univ :=
  Finset.eq_univ_of_forall fun i => Finset.mem_biUnion.mpr (by
    obtain ⟨t, ht⟩ := h.all i
    exact ⟨t, Finset.mem_univ t, ht⟩)

theorem Cuts.split (f : Buf (Elt F) (M.view.loc (c : Thread nD τ))) :
    (full c M f : sProp 𝕄) ⊢ bigSep Finset.univ fun t => holdsAny (F := F) c M (R t) := by
  have e : (full c M f : sProp 𝕄) = bigSep Finset.univ fun t => (M.view.loc (c : Thread nD τ) ↦[part c M R t]{fullShare} f) := by
    rw [← pointsTo_biUnion Finset.univ (part c M R) (fun t _ t' _ => h.apart t t'), h.covers c]
  rw [e]
  exact bigSep_mono fun t _ => holdsAny_in c M (R t) f

theorem Cuts.joinOn (P : (t : T) → ((R t).shape.Idx → Elt F e) → Prop) (f₀ : Buf (Elt F) (M.view.loc (c : Thread nD τ))) (S : Finset T) :
    (bigSep S fun t => holdsP c M (R t) (P t))
      ⊢ iprop(∃ f : Buf (Elt F) (M.view.loc (c : Thread nD τ)), ⌜∀ t ∈ S, P t ((M.access (R t)).read (Elt F) f)⌝
          ∗ (M.view.loc (c : Thread nD τ) ↦[S.biUnion (part c M R)]{fullShare} f) : sProp 𝕄) := by
  induction S using Finset.induction_on with
  | empty =>
    iintro -
    iexists f₀
    isplitr
    · ipureintro; intro t ht; exact absurd ht (Finset.notMem_empty _)
    · rw [Finset.biUnion_empty, pointsTo_empty]; iempintro
  | insert t S ht ih =>
    rw [bigSep_insert ht, Finset.biUnion_insert]
    have hd : Disjoint (part c M R t) (S.biUnion (part c M R)) :=
      (Finset.disjoint_biUnion_right _ _ _).mpr fun t' ht' => h.apart t t' fun e => ht (e ▸ ht')
    refine (show iprop(holdsP c M (R t) (P t) ∗ bigSep S fun t => holdsP c M (R t) (P t)) ⊢ _ from ?_)
    iintro ⟨Ht, HS⟩
    icases (holdsP_out c M (R t) (P t)) $$ Ht with ⟨%f, %hf, Ht⟩
    ihave H := ih $$ HS
    icases H with ⟨%g, %hg, HS⟩
    iexists (S.biUnion (part c M R)).piecewise g f
    isplitr
    · ipureintro
      intro t' ht'
      rcases Finset.mem_insert.mp ht' with rfl | ht'
      · rw [View.read_congr (v := M.access (R t')) (g := f) fun i hi => Finset.piecewise_eq_of_notMem _ _ _ (Finset.disjoint_left.mp hd hi)]
        exact hf
      · rw [View.read_congr (v := M.access (R t')) (g := g) fun i hi => Finset.piecewise_eq_of_mem _ _ _ (Finset.mem_biUnion.mpr ⟨t', ht', hi⟩)]
        exact hg t' ht'
    · iapply (pointsTo_join hd)
      isplitl [Ht]; · iexact Ht
      iexact HS

/-- Rectangles held at values join to the buffer held at contents that read so. -/
theorem Cuts.join (v : (t : T) → (R t).shape.Idx → Elt F e) (f₀ : Buf (Elt F) (M.view.loc (c : Thread nD τ))) :
    (bigSep Finset.univ fun t => holds c M (R t) (v t))
      ⊢ iprop(∃ f : Buf (Elt F) (M.view.loc (c : Thread nD τ)), ⌜∀ t, (M.access (R t)).read (Elt F) f = v t⌝ ∗ full c M f : sProp 𝕄) := by
  have j := h.joinOn c (fun t w => w = v t) f₀ Finset.univ
  rw [h.covers c] at j
  refine j.trans ?_
  iintro ⟨%f, %hf, H⟩
  iexists f
  isplitr; · ipureintro; exact fun t => hf t (Finset.mem_univ t)
  iexact H

/-- Rectangles held at anything join to the buffer held at something. -/
theorem Cuts.joinAny (f₀ : Buf (Elt F) (M.view.loc (c : Thread nD τ))) :
    (bigSep Finset.univ fun t => holdsAny (F := F) c M (R t)) ⊢ (iprop(∃ f, full c M f) : sProp 𝕄) := by
  have j := h.joinOn c (fun _ _ => True) f₀ Finset.univ
  rw [h.covers c] at j
  refine (bigSep_mono fun t _ => holdsAny_P c M (R t)).trans (j.trans ?_)
  iintro ⟨%f, -, H⟩
  iexists f
  iexact H

end Cut

/-! ## The buffers that are cut -/

theorem mem_row (b : Fin 2) (i : S2x128x512.Idx) : i ∈ (rowR b).set ↔ i 0 = b := by
  rw [Rect.mem_set_unit]
  constructor
  · intro h
    have h0 := h 0
    change b.val ≤ (i 0).val ∧ (i 0).val < b.val + 1 at h0
    exact Fin.ext (by omega)
  · rintro rfl a
    fin_cases a
    · exact ⟨le_refl _, Nat.lt_succ_self _⟩
    · exact ⟨Nat.zero_le _, (i 1).isLt.trans_eq (Nat.zero_add _).symm⟩
    · exact ⟨Nat.zero_le _, (i 2).isLt.trans_eq (Nat.zero_add _).symm⟩

theorem mem_slot (p : Fin 4) (b : Fin 2) (i : S4x2x128x512.Idx) : i ∈ (slotR p b).set ↔ i 0 = p ∧ i 1 = b := by
  rw [Rect.mem_set_unit]
  constructor
  · intro h
    have h0 := h 0
    have h1 := h 1
    change p.val ≤ (i 0).val ∧ (i 0).val < p.val + 1 at h0
    change b.val ≤ (i 1).val ∧ (i 1).val < b.val + 1 at h1
    exact ⟨Fin.ext (by omega), Fin.ext (by omega)⟩
  · rintro ⟨rfl, rfl⟩ a
    fin_cases a
    · exact ⟨le_refl _, Nat.lt_succ_self _⟩
    · exact ⟨le_refl _, Nat.lt_succ_self _⟩
    · exact ⟨Nat.zero_le _, (i 2).isLt.trans_eq (Nat.zero_add _).symm⟩
    · exact ⟨Nat.zero_le _, (i 3).isLt.trans_eq (Nat.zero_add _).symm⟩

theorem mem_row_acc (b : Fin 2) (i : S2x128x512.Idx) : i ∈ (accM.access (rowR b)).set ↔ i 0 = b := by
  rw [show (accM.access (rowR b)).set = (rowR b).set from View.set_slice_whole cc0_scratch1 (rowR b)]; exact mem_row b i
theorem mem_row_out (b : Fin 2) (i : S2x128x512.Idx) : i ∈ (outM.access (rowR b)).set ↔ i 0 = b := by
  rw [show (outM.access (rowR b)).set = (rowR b).set from View.set_slice_whole cc0_stg5_0 (rowR b)]; exact mem_row b i
theorem mem_slot_send (p : Fin 4) (b : Fin 2) (i : S4x2x128x512.Idx) : i ∈ (sendM.access (slotR p b)).set ↔ i 0 = p ∧ i 1 = b := by
  rw [show (sendM.access (slotR p b)).set = (slotR p b).set from View.set_slice_whole cc0_scratch2 (slotR p b)]; exact mem_slot p b i
theorem mem_slot_recv (p : Fin 4) (b : Fin 2) (i : S4x2x128x512.Idx) : i ∈ (recvM.access (slotR p b)).set ↔ i 0 = p ∧ i 1 = b := by
  rw [show (recvM.access (slotR p b)).set = (slotR p b).set from View.set_slice_whole cc0_scratch3 (slotR p b)]; exact mem_slot p b i

theorem cut_acc : Cuts accM rowR where
  apart b b' hb := Finset.disjoint_left.mpr fun i h h' => hb (((mem_row_acc b i).mp h).symm.trans ((mem_row_acc b' i).mp h'))
  all i := ⟨i 0, (mem_row_acc (i 0) i).mpr rfl⟩
theorem cut_out : Cuts outM rowR where
  apart b b' hb := Finset.disjoint_left.mpr fun i h h' => hb (((mem_row_out b i).mp h).symm.trans ((mem_row_out b' i).mp h'))
  all i := ⟨i 0, (mem_row_out (i 0) i).mpr rfl⟩
theorem cut_send : Cuts sendM (fun x : Fin 4 × Fin 2 => slotR x.1 x.2) where
  apart x y hxy := Finset.disjoint_left.mpr fun i h h' => by
    obtain ⟨h1, h2⟩ := (mem_slot_send x.1 x.2 i).mp h
    obtain ⟨h3, h4⟩ := (mem_slot_send y.1 y.2 i).mp h'
    exact hxy (Prod.ext (h1.symm.trans h3) (h2.symm.trans h4))
  all i := ⟨(i 0, i 1), (mem_slot_send (i 0) (i 1) i).mpr ⟨rfl, rfl⟩⟩
theorem cut_recv : Cuts recvM (fun x : Fin 4 × Fin 2 => slotR x.1 x.2) where
  apart x y hxy := Finset.disjoint_left.mpr fun i h h' => by
    obtain ⟨h1, h2⟩ := (mem_slot_recv x.1 x.2 i).mp h
    obtain ⟨h3, h4⟩ := (mem_slot_recv y.1 y.2 i).mp h'
    exact hxy (Prod.ext (h1.symm.trans h3) (h2.symm.trans h4))
  all i := ⟨(i 0, i 1), (mem_slot_recv (i 0) (i 1) i).mpr ⟨rfl, rfl⟩⟩

/-! ## The result -/

variable (I : Inp F) (c : Dev nD)

/-- A place of the result, inside its row. -/
def inRow (i : S2x128x512.Idx) : S1x128x512.Idx := ValueIdx.ix3 0 (i 1) (i 2)

/-- The result on device `c`: its two rows. -/
def Inp.out : Vec F S2x128x512 .bf16 := fun i => I.outRow c (i 0) (inRow i)

/-- Contents whose rows read as the result's are the result. -/
theorem out_of_rows (f : outM.view.ty.Contents (Elt F)) (h : ∀ b, (outM.access (rowR b)).read (Elt F) f = I.outRow c b) : f = I.out c := by
  funext i
  have e : ∀ a : Fin 3, ((i : S2x128x512.Idx) a : ℕ) = (((rowR (i 0)).emb (inRow i)) a : ℕ) := by
    intro a
    rw [Rect.emb_apply]
    fin_cases a
    · show (i 0).val = (i 0).val + 1 * 0; omega
    · show (i 1).val = 0 + 1 * (i 1).val; omega
    · show (i 2).val = 0 + 1 * (i 2).val; omega
  have h' := congrFun (h (i 0)) (inRow i)
  have e' : f i = (outM.access (rowR (i 0))).read (Elt F) f (inRow i) := congrArg (fun x : S2x128x512.Idx => f x) (funext fun a => Fin.ext (e a))
  exact e'.trans h'

/-! ## The body between whole buffers -/

/-- A whole buffer at contents not said. -/
abbrev fullAny {s : Shape} {e : EltTy} (M : Memref sig .tc .vmem s e) : sProp 𝕄 := iprop(∃ f, full (F := F) c M f)

theorem rows_split {e : EltTy} (M : Memref sig .tc .vmem S2x128x512 e) (h : Cuts M rowR) : fullAny (F := F) c M ⊢ rowsAny c M := by
  have hs : (bigSep Finset.univ fun b : Fin 2 => holdsAny (F := F) c M (rowR b)) ⊢ rowsAny c M := Entails.of_eq (BI.bigSep_fin_two (fun b : Fin 2 => holdsAny (F := F) c M (rowR b)))
  iintro ⟨%f, H⟩
  iapply hs
  iapply (h.split c f) $$ H

theorem slots_split (M : Memref sig .tc .vmem S4x2x128x512 .bf16) (h : Cuts M (fun x : Fin 4 × Fin 2 => slotR x.1 x.2)) :
    fullAny (F := F) c M ⊢ slots c M := by
  unfold slots
  iintro ⟨%f, H⟩
  iapply (h.split c f) $$ H

theorem rows_join {e : EltTy} (M : Memref sig .tc .vmem S2x128x512 e) (h : Cuts M rowR) : rowsAny (F := F) c M ⊢ fullAny c M := by
  have hs : rowsAny c M ⊢ (bigSep Finset.univ fun b : Fin 2 => holdsAny (F := F) c M (rowR b)) := Entails.of_eq (BI.bigSep_fin_two (fun b : Fin 2 => holdsAny (F := F) c M (rowR b))).symm
  exact hs.trans (h.joinAny c fun _ => Classical.arbitrary _)

theorem slots_join (M : Memref sig .tc .vmem S4x2x128x512 .bf16) (h : Cuts M (fun x : Fin 4 × Fin 2 => slotR x.1 x.2)) :
    slots (F := F) c M ⊢ fullAny c M := h.joinAny c fun _ => Classical.arbitrary _

theorem out_join : iprop(holds c outM (rowR 0) (I.outRow c 0) ∗ holds c outM (rowR 1) (I.outRow c 1)) ⊢ full c outM (I.out c) := by
  have hs : iprop(holds c outM (rowR 0) (I.outRow c 0) ∗ holds c outM (rowR 1) (I.outRow c 1))
      ⊢ (bigSep Finset.univ fun b : Fin 2 => holds c outM (rowR b) (I.outRow c b)) :=
    Entails.of_eq (BI.bigSep_fin_two (fun b : Fin 2 => holds c outM (rowR b) (I.outRow c b))).symm
  refine (hs.trans (cut_out.join c (fun b => I.outRow c b) fun _ => Classical.arbitrary _)).trans ?_
  iintro ⟨%f, %hf, H⟩
  rw [← out_of_rows I c f hf]
  iexact H

end Cert.KernelIdeal.Sum

end
-- ==== Proof.Region.lean ====
/-
  The kernel's region: what the windows hold before and after, the cells opened on entry and closed on exit, and the
  record the run of the program is put together from.
-/
module

public import proofs.«01_k».proof.Proof.Shares
public import proofs.«01_k».proof.Proof.Gen.KernelIdeal.Regions
public import proofs.«01_k».proof.Proof.Gen.KernelIdeal.Points
public import Idealize.ShloMosaic.Lib.Pipeline.Value

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Opening and closing the cells -/

theorem pair_up {T : Type} {S : Finset T} {Φ Ψ : T → sProp 𝕄} : iprop(bigSep S Φ ∗ bigSep S Ψ) ⊢ bigSep S fun x => iprop(Φ x ∗ Ψ x) :=
  Entails.of_eq (bigSep_sep' ..).symm

/-- An update at every member of a family, from a fact that may be consulted again and again. -/
theorem each_update {T : Type} [DecidableEq T] (R : sProp 𝕄) [BI.Persistent R] (Φ Ψ : T → sProp 𝕄)
    (h : ∀ x, iprop(R ∗ Φ x) ⊢ (iprop(|={Set.univ}=> Ψ x) : sProp 𝕄)) (S : Finset T) :
    iprop(R ∗ bigSep S Φ) ⊢ (iprop(|={Set.univ}=> bigSep S Ψ) : sProp 𝕄) := by
  induction S using Finset.induction_on with
  | empty =>
    rw [BI.bigSep_empty, BI.bigSep_empty]
    iintro -; imodintro; iempintro
  | insert x S hx ih =>
    have e (Θ : T → sProp 𝕄) : bigSep (insert x S) Θ = iprop(Θ x ∗ bigSep S Θ) := bigSep_insert hx
    rw [e, e]
    iintro ⟨#HR, Hx, HS⟩
    imod (h x) $$ [Hx] with Hx
    · isplitr; · iexact HR
      iexact Hx
    imod ih $$ [HS] with HS
    · isplitr; · iexact HR
      iexact HS
    imodintro
    isplitl [Hx] <;> iassumption

/-- The kernel's own DMA semaphores: for each slot, the send one and the receive one. -/
abbrev osem (k : (Fin 4 × Fin 2) × Fin 2) : SemLoc sig := .dma (if k.2 = 0 then sendS k.1.1 k.1.2 else recvS k.1.1 k.1.2)

variable (I : Inp F) (K : GSem nD τ sig → ℕ) (c : Dev nD)

/-- The two counters of a slot at zero. -/
def zeros (x : Fin 4 × Fin 2) : sProp 𝕄 := iprop(semVal (sendCell c x.1 x.2) 0 ∗ semVal (recvCell c x.1 x.2) 0)

theorem own_zeros : (Pipeline.ownSems0 osem c : sProp 𝕄) = bigSep Finset.univ (zeros (F := F) c) := by
  unfold Pipeline.ownSems0
  rw [bigSep_univ_prod]
  exact bigSep_congr fun x _ => BI.bigSep_fin_two (fun k : Fin 2 => (semVal ((c : Thread nD τ), osem (x, k)) 0 : sProp 𝕄))

/-- What the launch leaves device `c` for a slot: the right to open its two cells, the two tokens it pays with, and the
    credit of what its peer owes. -/
def rights (x : Fin 4 × Fin 2) : sProp 𝕄 :=
  iprop((openTok ER (sendCell c x.1 x.2) ∗ openTok ER (recvCell c x.1 x.2))
    ∗ (dutyTok ER (sendCell c x.1 x.2) 0 0 ∗ dutyTok ER (recvCell (peer x.1 x.2 c) x.1 x.2) 0 0)
    ∗ cred (tallyAt (recvCell c x.1 x.2) () N))

/-- A slot once its cells are open. -/
def ready (x : Fin 4 × Fin 2) : sProp 𝕄 :=
  iprop(ticket c x.1 x.2 ∗ await c x.1 x.2 ∗ atPos ER (sendCell c x.1 x.2) 0 ∅ 0 ∗ reached ER (recvCell c x.1 x.2) 0)

theorem open_slot (x : Fin 4 × Fin 2) :
    iprop(known I K ∗ (rights c x ∗ zeros c x)) ⊢ (iprop(|={Set.univ}=> ready c x) : sProp 𝕄) := by
  unfold rights zeros ready ticket await
  iintro ⟨#HI, ⟨⟨HoS, HoR⟩, ⟨HtS, HtR⟩, Hc⟩, HzS, HzR⟩
  ihave HC := (known_slot I K c x.1 x.2) $$ HI
  icases HC with ⟨#HIS, #HIR⟩
  imod (Rounds.cell_open ER (talk I) (g := sendCell c x.1 x.2) (Set.mem_univ (K (sendCell c x.1 x.2)))) $$ [HoS HzS] with ⟨HaS, #HrS⟩
  · isplitr; · iexact HIS
    isplitl [HoS] <;> iassumption
  imod (Rounds.cell_open ER (talk I) (g := recvCell c x.1 x.2) (Set.mem_univ (K (recvCell c x.1 x.2)))) $$ [HoR HzR] with ⟨HaR, #HrR⟩
  · isplitr; · iexact HIR
    isplitl [HoR] <;> iassumption
  imodintro
  isplitl [HtS HtR]
  · isplitl [HtS]; · iexact HtS
    isplitr; · iexact HrS
    iexact HtR
  isplitl [Hc HaR]; · isplitl [Hc] <;> iassumption
  isplitl [HaS]; · iexact HaS
  iexact HrR

theorem close_slot (x : Fin 4 × Fin 2) :
    iprop(known I K ∗ (atPos ER (sendCell c x.1 x.2) 1 ∅ 0 ∗ atPos ER (recvCell c x.1 x.2) 1 ∅ 0))
      ⊢ (iprop(|={Set.univ}=> zeros c x) : sProp 𝕄) := by
  unfold zeros
  iintro ⟨#HI, HaS, HaR⟩
  ihave HC := (known_slot I K c x.1 x.2) $$ HI
  icases HC with ⟨#HIS, #HIR⟩
  imod (Rounds.cell_close ER (talk I) (Set.mem_univ (K (sendCell c x.1 x.2))) (fun h => h) (R := 1) (duties_later I _)) $$ [HaS] with HzS
  · isplitr; · iexact HIS
    iexact HaS
  imod (Rounds.cell_close ER (talk I) (Set.mem_univ (K (recvCell c x.1 x.2))) (fun h => h) (R := 1) (duties_later I _)) $$ [HaR] with HzR
  · isplitr; · iexact HIR
    iexact HaR
  imodintro
  isplitl [HzS] <;> iassumption

/-- All of device `c`'s cells close once the kernel is over. -/
theorem close_all : iprop(known I K ∗ settled c)
    ⊢ (iprop(|={Set.univ}=> (semVal (barCell c) 0 ∗ bigSep Finset.univ (zeros (F := F) c))) : sProp 𝕄) := by
  unfold settled
  iintro ⟨#HI, HaB, HaS, HaR⟩
  ihave HC := (known_bar I K c) $$ HI
  icases HC with ⟨#HIB, -⟩
  imod (Rounds.cell_close ER (talk I) (Set.mem_univ (K (barCell c))) (fun h => h) (R := 1) (duties_later I _)) $$ [HaB] with HzB
  · isplitr; · iexact HIB
    iexact HaB
  imod (each_update (known I K) _ _ (close_slot I K c) Finset.univ) $$ [HaS HaR] with HZ
  · isplitr; · iexact HI
    iapply pair_up
    isplitl [HaS] <;> iassumption
  imodintro
  isplitl [HzB] <;> iassumption

/-! ## What rides with a device -/

/-- From the launch to the region: the records, the barrier's credit, position and tokens, and the slots' rights. -/
def Tk : sProp 𝕄 :=
  iprop(∃ K, known I K ∗ cred (tallyAt (barCell c) () 4) ∗ atPos ER (barCell c) 0 ∅ 0 ∗ barToks c ∗ bigSep Finset.univ (rights (F := F) c))

/-- The same with the cells open. -/
def Xk : sProp 𝕄 :=
  iprop(∃ K, known I K ∗ levAts L lv ∗ stake c ∗ bigSep Finset.univ fun x : Fin 4 × Fin 2 => reached ER (recvCell c x.1 x.2) 0)

/-- After the region: the barrier's counter at zero. -/
def Yk : sProp 𝕄 := semVal (barCell c) 0

theorem ready_all : bigSep Finset.univ (ready (F := F) c)
    ⊢ (iprop((bigSep Finset.univ fun x : Fin 4 × Fin 2 => ticket c x.1 x.2) ∗ (bigSep Finset.univ fun x : Fin 4 × Fin 2 => await c x.1 x.2)
      ∗ (bigSep Finset.univ fun x : Fin 4 × Fin 2 => atPos ER (sendCell c x.1 x.2) 0 ∅ 0)
      ∗ (bigSep Finset.univ fun x : Fin 4 × Fin 2 => reached ER (recvCell c x.1 x.2) 0)) : sProp 𝕄) := by
  unfold ready
  rw [bigSep_sep', bigSep_sep', bigSep_sep']

theorem enter : iprop(Tk I c ∗ Pipeline.ownSems0 osem c ∗ levAts L lv) ⊢ (iprop(|={Set.univ}=> Xk I c) : sProp 𝕄) := by
  rw [own_zeros]
  unfold Tk Xk stake
  iintro ⟨⟨%K, #HI, Hc, Ha, Ht, Hr⟩, Hz, Hlev⟩
  imod (each_update (known I K) _ _ (open_slot I K c) Finset.univ) $$ [Hr Hz] with HR
  · isplitr; · iexact HI
    iapply pair_up
    isplitl [Hr] <;> iassumption
  ihave HR' := (ready_all c) $$ HR
  icases HR' with ⟨HT, HW, HP, HR⟩
  imodintro
  iexists K
  isplitr; · iexact HI
  isplitl [Hlev]; · iexact Hlev
  isplitr [HR]
  · isplitl [Hc]; · iexact Hc
    isplitl [Ha]; · iexact Ha
    isplitl [Ht]; · iexact Ht
    isplitl [HT]; · iexact HT
    isplitl [HW] <;> iassumption
  iexact HR

/-! ## The region's data -/

variable (m : (ℓ : Loc nD τ sig) → Buf (Elt F) ℓ)

/-- The kernel's inputs: the program's arguments, the keys and values cut to the device's heads and transposed. -/
def inp : Inp F where
  x c := V1 m c main_arg0
  wq c := V1 m c main_arg1
  k c := V1 m c main_v15
  v c := V1 m c main_v16
  wo c := V1 m c main_arg4

/-- The buffers of device `c` when the program is over. -/
abbrev Vend (c : Dev nD) : Valuation τ sig (Elt F) := Function.update (V1 m c) (Proc.devRef .tc main_v17) ((inp m).out c)

/-- The four buffers no window stages, at any contents. -/
def scratch : sProp 𝕄 := iprop(fullAny (F := F) c ctxM ∗ fullAny c accM ∗ fullAny c sendM ∗ fullAny c recvM)

def before : sProp 𝕄 := iprop(Xk I c ∗ scratch c ∗ ∃ r, prngReg c r)
def after : sProp 𝕄 := iprop((Yk c ∗ bigSep Finset.univ (zeros c)) ∗ scratch c ∗ ∃ r, prngReg c r)

/-- The body between the region's two points: the receive slots are offered at once, and all cells closed at the end. -/
theorem run_whole (Q : PUnit → sProp 𝕄) :
    iprop(before I c ∗ debt c (dues c) ∗ inputs I c ∗ fullAny c outM
        ∗ ((after c ∗ debt c [] ∗ inputs I c ∗ full c outM (I.out c)) -∗ Q ⟨⟩))
      ⊢ runs c (bodyP (F := F)) Q := by
  have hP : (bodyP (F := F)) = bodyP >>= fun a => Prog.ret a := (bind_pure _).symm
  rw [hP, run_seq]
  unfold before Xk scratch
  iintro ⟨⟨⟨%K, #HI, Hlev, Hst, Hrc⟩, ⟨Hctx, Hacc, Hsend, Hrecv⟩, Hp⟩, HO, Hin, Hout, Hk⟩
  iapply (run_body I K c _)
  isplitl [Hlev Hst Hrc Hctx Hacc Hsend Hrecv HO Hin Hout]
  · unfold bodyPre desk
    isplitr; · iexact HI
    isplitl [Hlev]; · iexact Hlev
    isplitl [HO]; · iexact HO
    isplitl [Hst]; · iexact Hst
    isplitl [Hrc Hrecv]
    · iapply (pair_up (Φ := fun x : Fin 4 × Fin 2 => holdsAny c recvM (slotR x.1 x.2)) (Ψ := fun x : Fin 4 × Fin 2 => reached ER (recvCell c x.1 x.2) 0))
      isplitl [Hrecv]
      · iapply (show fullAny (F := F) c recvM ⊢ bigSep Finset.univ fun x : Fin 4 × Fin 2 => holdsAny c recvM (slotR x.1 x.2) from slots_split c recvM cut_recv) $$ Hrecv
      iexact Hrc
    isplitl [Hin]; · iexact Hin
    isplitl [Hctx Hacc Hsend]
    · isplitl [Hctx]; · iexact Hctx
      isplitl [Hacc]; · iapply (rows_split c accM cut_acc) $$ Hacc
      iapply (slots_split c sendM cut_send) $$ Hsend
    iapply (rows_split c outM cut_out) $$ Hout
  unfold bodyPost desk
  iintro ⟨HO, Hset, Hrecv, Hin, ⟨Hctx, Hacc, Hsend⟩, Hout⟩
  unfold runs
  rw [wp_ret]
  imod (close_all I K c) $$ [Hset] with ⟨HzB, HZ⟩
  · isplitr; · iexact HI
    iexact Hset
  imodintro
  iapply Hk
  unfold after Yk scratch
  isplitl [HzB HZ Hctx Hacc Hsend Hrecv Hp]
  · isplitl [HzB HZ]; · isplitl [HzB] <;> iassumption
    isplitr [Hp]
    · isplitl [Hctx]; · iexact Hctx
      isplitl [Hacc]; · iapply (rows_join c accM cut_acc) $$ Hacc
      isplitl [Hsend]; · iapply (slots_join c sendM cut_send) $$ Hsend
      iapply (slots_join c recvM cut_recv) $$ Hrecv
    iexact Hp
  isplitl [HO]; · iexact HO
  isplitl [Hin]; · iexact Hin
  iapply (out_join I c) $$ Hout

def dat (c : Dev nD) : Pipeline.Dat τ (Elt F) Unit ℕ UU ℕ cfg0 c where
  A w := V1 m c (Proc.devRef .tc (Pipeline.arrRef spec0 w))
  after w _ := match w with
    | ⟨0, _⟩ => (inp m).x c
    | ⟨1, _⟩ => (inp m).wq c
    | ⟨2, _⟩ => (inp m).k c
    | ⟨3, _⟩ => (inp m).v c
    | ⟨4, _⟩ => (inp m).wo c
    | ⟨5, _⟩ => (inp m).out c
  Φ t := if t.val = 0 then before (inp m) c else after c
  q _ := fullShare
  owed t := if t.val = 0 then O₀ c else 0

/-! ## The windows are whole arrays -/

theorem zero_block (n i : ℕ) : 0 * n + 1 * i = i := by rw [Nat.zero_mul, Nat.zero_add, Nat.one_mul]

omit [FloatOps F] in
theorem blk0 (X : main_arg0.ty.Contents (Elt F)) : View.read (Elt F) ((cfg0.win 0).blk t0_0).view X = X :=
  funext fun i => congrArg X (funext fun a => Fin.ext (zero_block _ _))
omit [FloatOps F] in
theorem blk1 (X : main_arg1.ty.Contents (Elt F)) : View.read (Elt F) ((cfg0.win 1).blk t0_0).view X = X :=
  funext fun i => congrArg X (funext fun a => Fin.ext (zero_block _ _))
omit [FloatOps F] in
theorem blk2 (X : main_v15.ty.Contents (Elt F)) : View.read (Elt F) ((cfg0.win 2).blk t0_0).view X = X :=
  funext fun i => congrArg X (funext fun a => Fin.ext (zero_block _ _))
omit [FloatOps F] in
theorem blk3 (X : main_v16.ty.Contents (Elt F)) : View.read (Elt F) ((cfg0.win 3).blk t0_0).view X = X :=
  funext fun i => congrArg X (funext fun a => Fin.ext (zero_block _ _))
omit [FloatOps F] in
theorem blk4 (X : main_arg4.ty.Contents (Elt F)) : View.read (Elt F) ((cfg0.win 4).blk t0_0).view X = X :=
  funext fun i => congrArg X (funext fun a => Fin.ext (zero_block _ _))
omit [FloatOps F] in
theorem blk5 (X : main_v17.ty.Contents (Elt F)) : View.read (Elt F) ((cfg0.win 5).blk t0_0).view X = X :=
  funext fun i => congrArg X (funext fun a => Fin.ext (zero_block _ _))

theorem before0 (d) : (dat m c).before 0 t0_0 d = (inp m).x c := by
  unfold Pipeline.Dat.before; rw [if_pos (fetch0_0 _)]; exact show View.read (Elt F) ((cfg0.win 0).blk t0_0).view (V1 m c main_arg0) = _ from blk0 _
theorem before1 (d) : (dat m c).before 1 t0_0 d = (inp m).wq c := by
  unfold Pipeline.Dat.before; rw [if_pos (fetch0_1 _)]; exact show View.read (Elt F) ((cfg0.win 1).blk t0_0).view (V1 m c main_arg1) = _ from blk1 _
theorem before2 (d) : (dat m c).before 2 t0_0 d = (inp m).k c := by
  unfold Pipeline.Dat.before; rw [if_pos (fetch0_2 _)]; exact show View.read (Elt F) ((cfg0.win 2).blk t0_0).view (V1 m c main_v15) = _ from blk2 _
theorem before3 (d) : (dat m c).before 3 t0_0 d = (inp m).v c := by
  unfold Pipeline.Dat.before; rw [if_pos (fetch0_3 _)]; exact show View.read (Elt F) ((cfg0.win 3).blk t0_0).view (V1 m c main_v16) = _ from blk3 _
theorem before4 (d) : (dat m c).before 4 t0_0 d = (inp m).wo c := by
  unfold Pipeline.Dat.before; rw [if_pos (fetch0_4 _)]; exact show View.read (Elt F) ((cfg0.win 4).blk t0_0).view (V1 m c main_arg4) = _ from blk4 _

omit [FloatOps F] in
theorem owns_full (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns
  simp only [Memref.view_whole, View.read_whole, View.set_whole]

theorem owes_start : (dat m c).owesAt () t0_0.castSucc ⊢ debt c (dues c) := by
  unfold Pipeline.Dat.owesAt Pipeline.owesWithin debt
  iintro ⟨%W, -, HO⟩
  iexists W; iexact HO

theorem owes_end : debt c [] ⊢ (dat m c).owesAt () t0_0.succ := by
  unfold Pipeline.Dat.owesAt Pipeline.owesWithin Pipeline.Dat.bound debt
  iintro ⟨%W, HO⟩
  iexists W
  isplitr; · ipureintro; exact fun _ _ => Or.inl trivial
  iexact HO

/-- What the pipeline calls at the one point is the body. -/
theorem body_here : (defs₀ (F := F)) Proc.tc 0 (t0_0, cfg0.slots t0_0) = bodyP := body_eq

theorem body_obligation (c : Dev nD) : Pipeline.BodyObligation (dat (F := F) m c) (defs₀ (F := F)) 𝒱₀ () Set.univ := fun t => by
  obtain rfl := fin_N0 t
  rw [bigSep_W0, bigSep_W0]
  simp only [owns_full]
  rw [show (dat m c).Φ t0_0.castSucc = before (inp m) c from rfl, show (dat m c).Φ t0_0.succ = after c from rfl]
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before0] at hf0; rw [before1] at hf1; rw [before2] at hf2; rw [before3] at hf3; rw [before4] at hf4
  subst hf0 hf1 hf2 hf3 hf4
  iapply ((Entails.of_eq (congrArg (fun P => runs c P _) body_here.symm)))
  iapply (run_whole (inp m) c _)
  isplitl [HΦ]; · iexact HΦ
  isplitl [HO]; · iapply (owes_start c m) $$ HO
  unfold inputs
  isplitl [H0 H1 H2 H3 H4]
  · isplitl [H0]; · iexact H0
    isplitl [H1]; · iexact H1
    isplitl [H2]; · iexact H2
    isplitl [H3]; · iexact H3
    iexact H4
  isplitl [H5]; · iexists f5; iexact H5
  iintro ⟨HΦ, HO, ⟨H0, H1, H2, H3, H4⟩, H5⟩
  isplitl [HΦ]; · iexact HΦ
  isplitl [HO]; · iapply (owes_end c m) $$ HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-! ## The record -/

abbrev pdats : (p : Fin 1) → (c : Dev nD) → Pipeline.Dat τ (Elt F) Unit ℕ UU ℕ (Pipeline.pin (pcfgs (F := F)) adm p) c
  | 0 => dat m

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem go_in : iprop(Pipeline.scopedRest (Pipeline.pin (pcfgs (F := F)) adm 0).spec c ∗ (∃ r, prngReg c r)
      ∗ StableHlo.held (c.tc : Thread nD τ) ∅ (V1 m c) ∗ Xk (inp m) c) ⊢ (pdats m 0 c).Φ 0 := by
  rw [show (pdats m 0 c).Φ 0 = before (inp m) c from rfl, show Pipeline.scopedRest (Pipeline.pin (pcfgs (F := F)) adm 0).spec c = (scratch c : sProp 𝕄) from scopedRest0_eq c]
  unfold before
  iintro ⟨Hs, Hp, -, HX⟩
  isplitl [HX]; · iexact HX
  isplitl [Hs] <;> iassumption

theorem go_out : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vend m c) ∗ Pipeline.ownSems0 osem c ∗ Yk c) := by
  rw [show (pdats m 0 c).Φ (Fin.last _) = after c from rfl, own_zeros,
    show Pipeline.scopedRest (Pipeline.pin (pcfgs (F := F)) adm 0).spec c = (scratch c : sProp 𝕄) from scopedRest0_eq c]
  unfold after StableHlo.held
  rw [BI.bigSep_empty]
  iintro ⟨⟨HY, HZ⟩, Hs, Hp⟩
  isplitl [Hs]; · iexact Hs
  isplitl [Hp]; · iexact Hp
  isplitr; · iempintro
  isplitl [HZ] <;> iassumption

theorem dues_above (x : GSem nD τ sig × ℕ) (hx : x ∈ dues c) : x.1.1.2 = .tc ∧ 0 < lv x.1 () := by
  simp only [List.mem_cons, List.not_mem_nil, _root_.or_false] at hx
  rcases hx with rfl | rfl | rfl | rfl | rfl | rfl | rfl | rfl | rfl | rfl | rfl | rfl <;>
    exact ⟨rfl, by first | exact Nat.one_pos | (rw [lv_recv]; exact Nat.lt_of_lt_of_le Nat.zero_lt_two (Nat.le_trans (Nat.le_add_right _ _) (Nat.le_add_right _ _)))⟩

theorem cut_at (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨x, hx, rfl⟩ := owed_pos h
    obtain ⟨h1, h2⟩ := dues_above c x hx
    exact ⟨by unfold L; rw [if_pos h1]; exact Finset.mem_singleton_self _, h2⟩
  · exact absurd h (Nat.lt_irrefl 0)

theorem staging_low (w : Fin 6) (s : Fin (win0 w).nbuf) : lv ((c : Thread nD τ), .dma ((win0 w).sem s)) () ≤ 0 := by
  have h : ∀ (w : Fin 6) (s : Fin (win0 w).nbuf), (match role (.dma ((win0 w).sem s)) with | .bar => 1 | .recv p b => 2 + 2 * p.val + b.val | _ => 0) ≤ 0 := by decide
  exact h w s

/-- The buffers that are no window's array. -/
abbrev others : Finset (DevRef τ sig) := Pipeline.ucRefs τ sig \ Pipeline.arrRefs spec0

theorem arrs_sub : Pipeline.arrRefs (τ := τ) spec0 ⊆ Pipeline.ucRefs τ sig := by decide

theorem Vend_of (b : Ref sig .tc) (h : b ≠ main_v17) : Vend m c b = V1 m c b := Function.update_of_ne (StableHlo.devRef_ne_of_ne h) _ _

theorem Vend_result : Vend m c main_v17 = (inp m).out c := Function.update_self (Proc.devRef .tc main_v17 : DevRef τ sig) _ (V1 m c)

theorem result_end : (dat m c).arrAt 5 cfg0.N = (inp m).out c :=
  (dat m c).arrAt_eq_of_cover 5 ((inp m).out c)
    (fun t _ => by obtain rfl := fin_N0 t; exact (blk5 _).symm)
    (fun i => ⟨t0_0, flush0_5 _, by
      show i ∈ ((View.whole main_v17).slice (win0_5.rect t0_0)).set
      rw [View.set_slice_whole, Rect.mem_set_unit]
      intro a
      exact ⟨(Nat.zero_mul _).trans_le (Nat.zero_le _), (i a).isLt.trans_eq (show S2x128x512.size a = 0 * S2x128x512.size a + S2x128x512.size a by rw [Nat.zero_mul, Nat.zero_add])⟩⟩)

theorem array_start (w : Fin 6) : (dat m c).arrAt w 0 = V1 m c (Proc.devRef .tc (Pipeline.arrRef spec0 w)) := rfl

theorem array_end : ∀ w : Fin 6, (dat m c).arrAt w cfg0.N = Vend m c (Proc.devRef .tc (Pipeline.arrRef spec0 w))
  | 0 => ((dat m c).arrAt_in 0 rfl _).trans (Vend_of c m main_arg0 (by decide)).symm
  | 1 => ((dat m c).arrAt_in 1 rfl _).trans (Vend_of c m main_arg1 (by decide)).symm
  | 2 => ((dat m c).arrAt_in 2 rfl _).trans (Vend_of c m main_v15 (by decide)).symm
  | 3 => ((dat m c).arrAt_in 3 rfl _).trans (Vend_of c m main_v16 (by decide)).symm
  | 4 => ((dat m c).arrAt_in 4 rfl _).trans (Vend_of c m main_arg4 (by decide)).symm
  | 5 => (result_end c m).trans (Vend_result c m).symm

theorem others_end (b : DevRef τ sig) (hb : b ∈ others \ ∅) : Vend m c b = V1 m c b :=
  Function.update_of_ne (fun h => by
    subst h
    exact (Finset.mem_sdiff.mp (Finset.mem_sdiff.mp hb).1).2 (by decide)) _ _

theorem own_sems : Pipeline.OwnSemFacts spec0 osem := by decide

set_option backward.isDefEq.respectTransparency.types false in
/-- The region, entered owing all the dues and left owing nothing. -/
def region : Pipeline.RegionSeg (pcfgs (F := F)) adm (pdats m) () defs₀ 𝒱₀ L lv 0 :=
  Pipeline.RegionSeg.ofTalk (pcfgs (F := F)) adm (pdats m) () defs₀ 𝒱₀ L lv 0 osem own_sems
    ∅ others (Finset.empty_subset _) kit rfl (fun c => (body_obligation m c).loose)
    (fun _ => 0) O₀ (fun c => (zero_add _).symm) (fun _ => rfl) (fun _ => rfl) (fun c w => (dat m c).share_full (fun _ => rfl) w)
    (V1 m) (Vend m) (fun c b hb => others_end c m b hb)
    (Tk (inp m)) Yk (Xk (inp m)) Yk (enter (inp m)) (fun c => go_in c m) (fun c => go_out c m)
    (fun c => by iintro H; imodintro; iexact H)
    (fun _ => 0)
    ⟨fun c _ _ => by rw [L_tc]; exact Finset.mem_singleton_self _, fun c w s => staging_low c w s, fun c t g i h => cut_at c m t g i h⟩
    (fun _ => iprop(emp))
    (fun c w => array_start c m w) (fun c w => array_end c m w)

end Cert.KernelIdeal.Sum

end
-- ==== Proof.Launch.lean ====
/-
  The launch: every cell's invariant is made at once, its tokens and the credit of what is owed are dealt to the devices,
  and the program's two items, the host operations and the region, are run one after the other.
-/
module

public import proofs.«01_k».proof.Proof.Region
public import Idealize.ShloMosaic.Lib.Pipeline.Regions
public import Idealize.ShloMosaic.Lib.Quiescent

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem osem_inj : Function.Injective osem := by decide
theorem osem_ne_bar : ∀ k, osem k ≠ .reg barS := by decide

def barEmb : Dev nD ↪ GSem nD τ sig := ⟨fun c => barCell c, fun _ _ h => congrArg (fun g : GSem nD τ sig => g.1.1) h⟩
def slotEmb : (Dev nD × Fin 4 × Fin 2) × Fin 2 ↪ GSem nD τ sig :=
  ⟨fun k => ((k.1.1 : Thread nD τ), osem (k.1.2, k.2)), fun a b h => by
    have h1 : a.1.1 = b.1.1 := congrArg (fun g : GSem nD τ sig => g.1.1) h
    have h2 := osem_inj (congrArg Prod.snd h)
    exact Prod.ext (Prod.ext h1 (congrArg Prod.fst h2)) (congrArg (fun t : (Fin 4 × Fin 2) × Fin 2 => t.2) h2)⟩

abbrev barCells : Finset (GSem nD τ sig) := Finset.univ.map barEmb
abbrev slotCells : Finset (GSem nD τ sig) := Finset.univ.map slotEmb

theorem cells_apart : Disjoint (barCells : Finset (GSem nD τ sig)) slotCells := by
  rw [Finset.disjoint_left]
  rintro g h₁ h₂
  obtain ⟨c, -, rfl⟩ := Finset.mem_map.mp h₁
  obtain ⟨k, -, h⟩ := Finset.mem_map.mp h₂
  exact osem_ne_bar _ (congrArg Prod.snd h)

/-- A duty: of a barrier cell, one for each bit; of a slot's cell, the only one. -/
def dutyOf : (Dev nD × Fin 4) ⊕ ((Dev nD × Fin 4 × Fin 2) × Fin 2) → GSem nD τ sig × ℕ × Fin 4
  | .inl x => (barEmb x.1, 0, x.2)
  | .inr k => (slotEmb k, 0, 0)

theorem dutyOf_inj : Function.Injective dutyOf := by
  rintro (x | k) (x' | k') h
  · exact congrArg Sum.inl (Prod.ext (barEmb.injective (congrArg Prod.fst h)) (congrArg (fun t : GSem nD τ sig × ℕ × Fin 4 => t.2.2) h))
  · exact absurd (congrArg (fun t : GSem nD τ sig × ℕ × Fin 4 => t.1.2) h).symm (osem_ne_bar _)
  · exact absurd (congrArg (fun t : GSem nD τ sig × ℕ × Fin 4 => t.1.2) h) (osem_ne_bar _)
  · exact congrArg Sum.inr (slotEmb.injective (congrArg Prod.fst h))

abbrev tokens : Finset (GSem nD τ sig × ℕ × Fin 4) := Finset.univ.map ⟨dutyOf, dutyOf_inj⟩

/-- A family over the devices' slots' cells, the two cells of a slot side by side. -/
theorem over_cells (Φ : GSem nD τ sig → sProp 𝕄) :
    bigSep slotCells Φ = bigSep Finset.univ fun x : Dev nD × Fin 4 × Fin 2 => iprop(Φ (sendCell x.1 x.2.1 x.2.2) ∗ Φ (recvCell x.1 x.2.1 x.2.2)) := by
  rw [bigSep_map, bigSep_univ_prod]
  exact bigSep_congr fun x _ => BI.bigSep_fin_two (fun k : Fin 2 => Φ (slotEmb (x, k)))

theorem over_bars (Φ : GSem nD τ sig → sProp 𝕄) : bigSep barCells Φ = bigSep Finset.univ fun c : Dev nD => Φ (barCell c) := by
  rw [bigSep_map]; rfl

/-- A family dealt by device and member may be dealt to other devices, member by member. -/
theorem around {T : Type} [Fintype T] (e : T → Dev nD ≃ Dev nD) (Φ : Dev nD → T → sProp 𝕄) :
    (bigSep Finset.univ fun c => bigSep Finset.univ fun x => Φ c x) = bigSep Finset.univ fun c => bigSep Finset.univ fun x => Φ (e x c) x := by
  rw [← bigSep_univ_prod (fun y : Dev nD × T => Φ y.1 y.2), ← bigSep_univ_prod (fun y : Dev nD × T => Φ (e y.2 y.1) y.2)]
  exact bigSep_univ_equiv (⟨fun y => (e y.2 y.1, y.2), fun y => ((e y.2).symm y.1, y.2), fun y => by simp, fun y => by simp⟩ : Dev nD × T ≃ Dev nD × T)
    (fun y => Φ y.1 y.2)

/-- The tokens device `c` pays with. -/
def purse (c : Dev nD) : sProp 𝕄 :=
  iprop(barToks c ∗ bigSep Finset.univ fun x : Fin 4 × Fin 2 =>
    iprop(dutyTok ER (sendCell c x.1 x.2) 0 0 ∗ dutyTok ER (recvCell (peer x.1 x.2 c) x.1 x.2) 0 0))

theorem tokens_dealt : bigSep tokens (fun x => (dutyTok ER x.1 x.2.1 x.2.2 : sProp 𝕄)) = bigSep Finset.univ fun c => purse (F := F) c := by
  have hS : (bigSep Finset.univ fun k : (Dev nD × Fin 4 × Fin 2) × Fin 2 => (dutyTok ER (slotEmb k) 0 0 : sProp 𝕄))
      = bigSep Finset.univ fun x : Dev nD × Fin 4 × Fin 2 =>
          iprop(dutyTok ER (sendCell x.1 x.2.1 x.2.2) 0 0 ∗ dutyTok ER (recvCell x.1 x.2.1 x.2.2) 0 0) :=
    (bigSep_map (s := Finset.univ) slotEmb (Φ := fun g => (dutyTok ER g 0 0 : sProp 𝕄))).symm.trans (over_cells fun g => dutyTok ER g 0 0)
  have hR := around (F := F) (fun x : Fin 4 × Fin 2 => swap (bit x.1 x.2)) (fun c x => dutyTok ER (recvCell c x.1 x.2) 0 0)
  have hB := around (F := F) swap (fun c j => dutyTok ER (barCell c) 0 j)
  unfold purse barToks
  rw [bigSep_map, bigSep_univ_sum]
  show iprop((bigSep Finset.univ fun x : Dev nD × Fin 4 => (dutyTok ER (barCell x.1) 0 x.2 : sProp 𝕄))
    ∗ bigSep Finset.univ fun k : (Dev nD × Fin 4 × Fin 2) × Fin 2 => (dutyTok ER (slotEmb k) 0 0 : sProp 𝕄)) = _
  rw [hS, bigSep_univ_prod, bigSep_univ_prod, hB, bigSep_sep']
  refine congrArg (fun X => iprop(_ ∗ X)) ?_
  have h1 (c : Dev nD) : (bigSep Finset.univ fun x : Fin 4 × Fin 2 => iprop(dutyTok ER (sendCell c x.1 x.2) 0 0 ∗ dutyTok ER (recvCell c x.1 x.2) 0 0) : sProp 𝕄)
      = iprop((bigSep Finset.univ fun x : Fin 4 × Fin 2 => dutyTok ER (sendCell c x.1 x.2) 0 0) ∗ (bigSep Finset.univ fun x : Fin 4 × Fin 2 => dutyTok ER (recvCell c x.1 x.2) 0 0)) :=
    bigSep_sep' ..
  have h2 (c : Dev nD) : (bigSep Finset.univ fun x : Fin 4 × Fin 2 => iprop(dutyTok ER (sendCell c x.1 x.2) 0 0 ∗ dutyTok ER (recvCell (peer x.1 x.2 c) x.1 x.2) 0 0) : sProp 𝕄)
      = iprop((bigSep Finset.univ fun x : Fin 4 × Fin 2 => dutyTok ER (sendCell c x.1 x.2) 0 0) ∗ (bigSep Finset.univ fun x : Fin 4 × Fin 2 => dutyTok ER (recvCell (peer x.1 x.2 c) x.1 x.2) 0 0)) :=
    bigSep_sep' ..
  rw [bigSep_congr fun c _ => h2 c]
  refine (bigSep_congr fun c _ => h1 c).trans ?_
  rw [bigSep_sep', bigSep_sep', hR]
  rfl

/-! ## The launch's credit -/

theorem owed_sum (l : List (GSem nD τ sig × ℕ)) (g : GSem nD τ sig) :
    owed l g () = (l.map fun x => if x.1 = g then x.2 else 0).sum := by
  induction l with
  | nil => rfl
  | cons x l ih =>
    unfold owed
    rw [Pi.add_apply, Finsupp.add_apply, ih, tallyAt_apply, List.map_cons, List.sum_cons, Nat.add_comm]
    refine congrArg (· + _) ?_
    by_cases h : x.1 = g
    · rw [if_pos ⟨h.symm, rfl⟩, if_pos h]
    · rw [if_neg fun h' => h h'.1.symm, if_neg h]

theorem bar_eq (j : Fin 4) (d c : Dev nD) : barCell (partner j d) = barCell c ↔ d = partner j c := by
  constructor
  · intro h
    have h1 : partner j d = c := barEmb.injective h
    rw [← h1, partner_partner]
  · rintro rfl
    rw [partner_partner]

theorem recv_eq (x y : Fin 4 × Fin 2) (d c : Dev nD) : recvCell (peer x.1 x.2 d) x.1 x.2 = recvCell c y.1 y.2 ↔ x = y ∧ d = peer y.1 y.2 c := by
  constructor
  · intro h
    have h1 : ((peer x.1 x.2 d, x), (1 : Fin 2)) = ((c, y), (1 : Fin 2)) := slotEmb.injective h
    have h2 : peer x.1 x.2 d = c := congrArg (fun t => t.1.1) h1
    have h3 : x = y := congrArg (fun t => t.1.2) h1
    subst h3
    exact ⟨rfl, by rw [← h2]; exact (partner_partner _ _).symm⟩
  · rintro ⟨rfl, rfl⟩
    rw [peer, partner_partner]

theorem recv_ne_bar (x : Fin 4 × Fin 2) (d c : Dev nD) : recvCell d x.1 x.2 ≠ barCell c := fun h => osem_ne_bar (x, 1) (congrArg Prod.snd h)

/-- The dues as two lists of kinds. -/
theorem dues_eq (d : Dev nD) : dues d = ([0, 1, 2, 3] : List (Fin 4)).map (dueBar d)
    ++ ([(0, 0), (0, 1), (1, 0), (1, 1), (2, 0), (2, 1), (3, 0), (3, 1)] : List (Fin 4 × Fin 2)).map (fun x => dueCopy d x.1 x.2) := rfl

theorem sum_bits (f : Fin 4 → ℕ) : (([0, 1, 2, 3] : List (Fin 4)).map f).sum = ∑ j, f j :=
  (List.sum_toFinset f (by decide)).symm.trans (Finset.sum_congr (by decide) fun _ _ => rfl)
theorem sum_slots (f : Fin 4 × Fin 2 → ℕ) :
    (([(0, 0), (0, 1), (1, 0), (1, 1), (2, 0), (2, 1), (3, 0), (3, 1)] : List (Fin 4 × Fin 2)).map f).sum = ∑ x, f x :=
  (List.sum_toFinset f (by decide)).symm.trans (Finset.sum_congr (by decide) fun _ _ => rfl)

theorem owed_at (d : Dev nD) (g : GSem nD τ sig) : O₀ d g ()
    = (∑ j : Fin 4, if barCell (partner j d) = g then 1 else 0) + ∑ x : Fin 4 × Fin 2, if recvCell (peer x.1 x.2 d) x.1 x.2 = g then N else 0 := by
  rw [O₀, owed_sum, dues_eq, List.map_append, List.sum_append, List.map_map, List.map_map]
  exact congrArg₂ _ (sum_bits _) (sum_slots _)

theorem owed_bar (c : Dev nD) : ∑ d : Dev nD, O₀ d (barCell c) () = 4 := by
  have h (d : Dev nD) : O₀ d (barCell c) () = ∑ j : Fin 4, if d = partner j c then 1 else 0 := by
    rw [owed_at, Finset.sum_eq_zero (s := (Finset.univ : Finset (Fin 4 × Fin 2))) fun x _ => if_neg (recv_ne_bar x _ c), Nat.add_zero]
    exact Finset.sum_congr rfl fun j _ => if_congr (bar_eq j d c) rfl rfl
  rw [Finset.sum_congr rfl fun d _ => h d, Finset.sum_comm, Finset.sum_congr rfl fun j _ => (Finset.sum_ite_eq' Finset.univ (partner j c) fun _ => 1).trans (if_pos (Finset.mem_univ _))]
  rfl

theorem owed_recv (c : Dev nD) (y : Fin 4 × Fin 2) : ∑ d : Dev nD, O₀ d (recvCell c y.1 y.2) () = N := by
  have h (d : Dev nD) : O₀ d (recvCell c y.1 y.2) () = if d = peer y.1 y.2 c then N else 0 := by
    rw [owed_at, Finset.sum_eq_zero (s := (Finset.univ : Finset (Fin 4))) fun j _ => if_neg fun h => recv_ne_bar y c _ h.symm, Nat.zero_add,
      Finset.sum_eq_single y (fun x _ hx => if_neg fun h => hx ((recv_eq x y d c).mp h).1) (fun h => absurd (Finset.mem_univ y) h)]
    exact if_congr ((recv_eq y y d c).trans ⟨fun h => h.2, fun h => ⟨rfl, h⟩⟩) rfl rfl
  rw [Finset.sum_congr rfl fun d _ => h d]
  exact (Finset.sum_ite_eq' Finset.univ (peer y.1 y.2 c) fun _ => N).trans (if_pos (Finset.mem_univ _))

theorem credit_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Finsupp.single_eq_same, ← h]
  exact Pipeline.launchCredit_owing ..

/-- The semaphores a device holds credit at. -/
def credEmb : Unit ⊕ (Fin 4 × Fin 2) ↪ SemLoc sig where
  toFun | .inl _ => .reg barS | .inr x => osem (x, 1)
  inj' := by decide

theorem credits (c : Dev nD) : (Pipeline.launchCred O₀ c : sProp 𝕄)
    ⊢ iprop(cred (tallyAt (barCell c) () 4) ∗ bigSep Finset.univ fun x : Fin 4 × Fin 2 => cred (tallyAt (recvCell c x.1 x.2) () N)) := by
  unfold Pipeline.launchCred
  have e (Φ : SemLoc sig → sProp 𝕄) : bigSep Finset.univ Φ = iprop(bigSep (Finset.univ.map credEmb) Φ ∗ bigSep (Finset.univ \ Finset.univ.map credEmb) Φ) :=
    bigSep_sdiff_split (Finset.subset_univ _)
  have e2 (Φ : SemLoc sig → sProp 𝕄) : bigSep (Finset.univ.map credEmb) Φ = iprop(Φ (.reg barS) ∗ bigSep Finset.univ fun x : Fin 4 × Fin 2 => Φ (.dma (recvS x.1 x.2))) := by
    rw [bigSep_map, bigSep_univ_sum]
    exact congrArg (fun X => iprop(X ∗ _)) (bigSep_singleton ..)
  have h4 (x : Fin 4 × Fin 2) := credit_at (recvCell c x.1 x.2) N (owed_recv c x)
  rw [e, e2, credit_at (barCell c) 4 (owed_bar c)]
  simp only [h4]
  iintro ⟨H, -⟩
  iexact H

end Cert.KernelIdeal.Sum

end
-- ==== Proof.Main.lean ====
/-
  The run of the whole program, at any float values: it ends, every argument is as it was, the result is the function
  `Inp.out` of the inputs, and every counter is at zero.
-/
module

public import proofs.«01_k».proof.Proof.Launch

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the launch deals -/

/-- The launch element: the pipeline's, and the protocol's. -/
def u₀ : UU :=
  (initOf (Pipeline.cells (Pipeline.pin (pcfgs (F := F)) adm) cellOf_inj) (Pipeline.launchToks (Pipeline.pin (pcfgs (F := F)) adm) cellOf_inj),
    launchOf barCells slotCells tokens)

/-- A resource put with device `c₀` until it is dealt. -/
def parked (c₀ : Dev nD) (X : sProp 𝕄) (c : Dev nD) : sProp 𝕄 := if c = c₀ then X else iprop(emp)

theorem parked_all (c₀ : Dev nD) (X : sProp 𝕄) : bigSep Finset.univ (parked c₀ X) = X := by
  have h : bigSep (Finset.univ.erase c₀) (parked c₀ X) = (BI.emp : sProp 𝕄) :=
    (bigSep_congr fun c hc => if_neg (Finset.ne_of_mem_erase hc)).trans (BI.bigSep_emp_const _)
  rw [bigSep_univ_at _ c₀, h]
  unfold parked
  rw [if_pos rfl]
  exact BI.equiv_iff.mp sep_emp

abbrev G : Dev nD → sProp 𝕄 := parked 0 (BI.own (ER (launchOf barCells slotCells tokens)))

variable (I : Inp F)

theorem known_intro (κ : GSem nD τ sig → ℕ) :
    iprop(bigSep (barCells ∪ slotCells) (fun g => cellInv ER (talk I) (κ g) g) ∗ bigSep barCells (fun g => reached ER g 0)) ⊢ (known I κ : sProp 𝕄) := by
  have e : bigSep (barCells ∪ slotCells) (fun g => cellInv ER (talk I) (κ g) g)
      = (iprop(bigSep barCells (fun g => cellInv ER (talk I) (κ g) g) ∗ bigSep slotCells (fun g => cellInv ER (talk I) (κ g) g)) : sProp 𝕄) :=
    bigSep_union cells_apart
  rw [e, over_bars, over_bars, over_cells]
  unfold known
  iintro ⟨⟨HB, HS⟩, HR⟩
  isplitl [HB HR]
  · iapply (show iprop((bigSep Finset.univ fun c : Dev nD => cellInv ER (talk I) (κ (barCell c)) (barCell c)) ∗ bigSep Finset.univ fun c : Dev nD => reached ER (barCell c) 0)
      ⊢ bigSep Finset.univ (knownBar I κ) from pair_up)
    isplitl [HB] <;> iassumption
  iexact HS

/-- What is dealt to device `c` and cannot be copied. -/
def share (c : Dev nD) : sProp 𝕄 :=
  iprop(atPos ER (barCell c) 0 ∅ 0
    ∗ (bigSep Finset.univ fun x : Fin 4 × Fin 2 => iprop(openTok ER (sendCell c x.1 x.2) ∗ openTok ER (recvCell c x.1 x.2))) ∗ purse c)

theorem Tk_intro (κ : GSem nD τ sig → ℕ) (c : Dev nD) : iprop(known I κ ∗ share c ∗ Pipeline.launchCred O₀ c) ⊢ (Tk I c : sProp 𝕄) := by
  unfold share purse Tk rights
  iintro ⟨#HI, ⟨Ha, Ho, Hb, Ht⟩, Hc⟩
  ihave Hc' := (credits c) $$ Hc
  icases Hc' with ⟨Hcb, Hcr⟩
  iexists κ
  isplitr; · iexact HI
  isplitl [Hcb]; · iexact Hcb
  isplitl [Ha]; · iexact Ha
  isplitl [Hb]; · iexact Hb
  iapply pair_up
  isplitl [Ho]; · iexact Ho
  iapply pair_up
  isplitl [Ht] <;> iassumption

/-! ## The two items -/

variable (m : (ℓ : Loc nD τ sig) → Buf (Elt F) ℓ) (ρ : Dev nD → PrngReg)

/-- What rides beside the buffers until the region. -/
def rides (c : Dev nD) : sProp 𝕄 := iprop(Tk (inp m) c ∗ (∃ r, prngReg c r) ∗ ∃ W, owes (c : Thread nD τ) (O₀ c) W)

abbrev T₀ (c : Dev nD) : sProp 𝕄 := iprop(StableHlo.held (c : Thread nD τ) (Pipeline.ucRefs τ sig) (V0 m c) ∗ rides m c)
abbrev Tₙ (c : Dev nD) : sProp 𝕄 := iprop(StableHlo.held (c : Thread nD τ) (Pipeline.ucRefs τ sig) (Vend m c) ∗ semVal (barCell c) 0)

theorem held_cut (c : Dev nD) (V : Valuation τ sig (Elt F)) : (StableHlo.held (c : Thread nD τ) (Pipeline.ucRefs τ sig) V : sProp 𝕄)
    = iprop(StableHlo.held (c : Thread nD τ) (Pipeline.arrRefs spec0) V ∗ StableHlo.held (c : Thread nD τ) others V) :=
  StableHlo.held_sub_split (c : Thread nD τ) arrs_sub V

theorem region_pre (c : Dev nD) : iprop(StableHlo.held (c : Thread nD τ) (Pipeline.ucRefs τ sig) (V1 m c) ∗ rides m c) ⊢ (region m).pre c := by
  show _ ⊢ iprop(StableHlo.held (c : Thread nD τ) (Pipeline.arrRefs spec0) (V1 m c) ∗ (∃ r, prngReg c r)
    ∗ (StableHlo.held (c : Thread nD τ) others (V1 m c) ∗ emp) ∗ Tk (inp m) c ∗ ∃ Wd, owes (c : Thread nD τ) (0 + O₀ c) Wd)
  rw [held_cut, zero_add]
  unfold rides
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem region_post (c : Dev nD) : (region m).post c ⊢ iprop(Tₙ m c ∗ ∃ W, owes (c : Thread nD τ) (0 : CellTallies nD τ sig Unit) W) := by
  show iprop(StableHlo.held (c : Thread nD τ) (Pipeline.arrRefs spec0) (Vend m c) ∗ (∃ r, prngReg c r)
    ∗ (StableHlo.held (c : Thread nD τ) others (Vend m c) ∗ emp) ∗ semVal (barCell c) 0 ∗ ∃ Wd, owes (c : Thread nD τ) (0 : CellTallies nD τ sig Unit) Wd) ⊢ _
  unfold Tₙ
  rw [held_cut]
  iintro ⟨Ha, -, ⟨Ho, -⟩, Hz, HO⟩
  isplitr [HO]
  · isplitr [Hz]
    · isplitl [Ha] <;> iassumption
    iexact Hz
  iexact HO

abbrev items (c : Dev nD) : List (Pipeline.Seg (pcfgs (F := F)) adm (pdats m) () defs₀ 𝒱₀ L lv) :=
  segs m 𝒱₀ L lv (fun _ => rides m) () (pdats m) (region m) c

theorem bars_zero (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device holds at launch besides the counter of its barrier and what is parked. -/
def baggage (c : Dev nD) : sProp 𝕄 :=
  iprop(StableHlo.held (c : Thread nD τ) (Pipeline.ucRefs τ sig) (V0 m c) ∗ Pipeline.launchCred O₀ c ∗ (∃ r, prngReg c r) ∗ owes (c : Thread nD τ) (O₀ c) ∅)

theorem unpack (c : Dev nD) :
    iprop(unscopedBufs c (fun b => m ((c.tc : Thread nD τ).loc b)) ∗ unscopedSems0 c ∗ owes (c.tc : Thread nD τ) (O₀ c) ∅
        ∗ Pipeline.launchCred O₀ c ∗ prngReg c (ρ c) ∗ G c)
      ⊢ (iprop(baggage m c ∗ semVal (barCell c) 0 ∗ G c) : sProp 𝕄) := by
  rw [show (unscopedBufs c (fun b => m ((c.tc : Thread nD τ).loc b)) : sProp 𝕄) = StableHlo.held (c : Thread nD τ) (Pipeline.ucRefs τ sig) (V0 m c)
    from Pipeline.unscopedBufs_held c (V0 m c), bars_zero]
  unfold baggage
  iintro ⟨Hh, Hz, HO, Hc, Hp, HG⟩
  isplitl [Hh HO Hc Hp]
  · isplitl [Hh]; · iexact Hh
    isplitl [Hc]; · iexact Hc
    isplitl [Hp]; · iexists (ρ c); iexact Hp
    iexact HO
  isplitl [Hz] <;> iassumption

theorem T₀_intro (κ : GSem nD τ sig → ℕ) (c : Dev nD) : iprop(known (inp m) κ ∗ (share c ∗ baggage m c)) ⊢ T₀ m c := by
  unfold baggage T₀ rides
  iintro ⟨HI, Hs, Hh, Hc, Hp, HO⟩
  isplitl [Hh]; · iexact Hh
  isplitl [HI Hs Hc]
  · iapply (Tk_intro (inp m) κ c)
    isplitl [HI]; · iexact HI
    isplitl [Hs] <;> iassumption
  isplitl [Hp]; · iexact Hp
  iexists ∅; iexact HO

theorem bigSep_three {T : Type} {S : Finset T} (A B C : T → sProp 𝕄) :
    bigSep S (fun c => iprop(A c ∗ B c ∗ C c)) ⊢ iprop(bigSep S A ∗ bigSep S B ∗ bigSep S C) := by
  rw [bigSep_sep', bigSep_sep']

theorem shares_dealt :
    iprop(bigSep barCells (fun g => atPos ER g 0 ∅ 0) ∗ bigSep slotCells (fun g => openTok ER g) ∗ bigSep tokens (fun x => dutyTok ER x.1 x.2.1 x.2.2))
      ⊢ (bigSep Finset.univ fun c : Dev nD => share (F := F) c) := by
  rw [over_bars, over_cells, tokens_dealt, bigSep_univ_prod]
  unfold share
  iintro ⟨Ha, Ho, Ht⟩
  iapply pair_up
  isplitl [Ha]; · iexact Ha
  iapply pair_up
  isplitl [Ho] <;> iassumption

theorem start_all :
    iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have h0 : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop(bigSep Finset.univ (baggage m) ∗ (bigSep Finset.univ fun c : Dev nD => semVal (barCell c) 0) ∗ bigSep Finset.univ G) : sProp 𝕄) :=
    (bigSep_mono fun c _ => unpack m ρ c).trans (bigSep_three _ _ _)
  iintro ⟨H, -⟩
  ihave H' := h0 $$ H
  icases H' with ⟨HB, Hz, HG⟩
  ihave Hu := (show bigSep Finset.univ (G (F := F)) ⊢ BI.own (ER (launchOf barCells slotCells tokens)) from Entails.of_eq (parked_all 0 _)) $$ HG
  imod (Rounds.fund_launch ER (talk (inp m)) cells_apart (fun g _ h => h) tokens) $$ [Hz Hu] with ⟨%κ, -, Hinv, Hr, Hat, Hopen, Htok⟩
  · isplitl [Hz]
    · iapply (Entails.of_eq (over_bars (F := F) fun g => semVal g 0).symm) $$ Hz
    iexact Hu
  ihave #HI := (known_intro (inp m) κ) $$ [Hinv Hr]
  · isplitl [Hinv] <;> iassumption
  imodintro
  iapply (bigSep_with_persistent (R := known (inp m) κ) (Φ := fun c => iprop(share c ∗ baggage m c)) fun c _ => T₀_intro m κ c)
  isplitr; · iexact HI
  iapply pair_up
  isplitr [HB]
  · iapply shares_dealt
    isplitl [Hat]; · iexact Hat
    isplitl [Hopen] <;> iassumption
  iexact HB

theorem unscoped_sem : ∀ sm : SemLoc sig, sm.isScoped .tc = false → sm = .reg barS := by decide

/-- What a device's memory is at the end: its arguments as launched, its result the function of the inputs. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v17) = (inp m).out c

theorem kept (c : Dev nD) (r : Ref sig .tc) (h : r ≠ main_v17) (h' : r ∉ hostOps0_W) : Vend m c r = m ((c.tc : Thread nD τ).loc r) :=
  (Vend_of c m r h).trans ((V1_of m c r h').trans rfl)

theorem ends_of (c : Dev nD) (s : MemSt nD τ sig (Elt F)) (h : ∀ b ∈ Pipeline.ucRefs τ sig, s.mem ((c : Thread nD τ).1, b) = Vend m c b) : Ends m c s := by
  have hr (r : Ref sig .tc) (hs : (Proc.devRef (τ := τ) .tc r).isScoped = false) : s.mem ((c.tc : Thread nD τ).loc r) = Vend m c r :=
    h (Proc.devRef .tc r) (Finset.mem_filter.mpr ⟨StableHlo.devRef_mem_tcRefs r, by rw [hs]; decide⟩)
  exact ⟨(hr main_arg0 (by decide)).trans (kept m c main_arg0 (by decide) (by decide)),
    (hr main_arg1 (by decide)).trans (kept m c main_arg1 (by decide) (by decide)),
    (hr main_arg2 (by decide)).trans (kept m c main_arg2 (by decide) (by decide)),
    (hr main_arg3 (by decide)).trans (kept m c main_arg3 (by decide) (by decide)),
    (hr main_arg4 (by decide)).trans (kept m c main_arg4 (by decide) (by decide)),
    (hr main_v17 (by decide)).trans (Vend_result c m)⟩

set_option backward.isDefEq.respectTransparency.types false in
theorem finish (c : Dev nD) (s' : Phys nD τ sig (Elt F)) :
    iprop(Tₙ m c ∗ SI s') ⊢ (iprop(|={Set.univ}=> (⌜Ends m c s'.mem ∧ s'.mem.sem (barCell c) = 0⌝ ∗ SI s')) : sProp 𝕄) := by
  unfold Tₙ StableHlo.held
  iintro ⟨⟨Hh, Hz⟩, HSI⟩
  icombine HSI Hz gives %hz
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro; exact ⟨ends_of m c _ h, by simpa using hz⟩
  iexact HSI

set_option backward.isDefEq.respectTransparency.types false in
theorem run_main : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (pdats m) () cellOf_inj EP defs₀ 𝒱₀ L lv m ρ main (items m)
    (fun c Q => by
      rewrite [main_chain c, Pipeline.Seg.run_eq_chain,
        show (items m c).map Pipeline.Seg.prog = [StableHlo.seq (hostOps0 c), Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := fun c => ⟨.rfl, region_pre m c, region_post m c⟩)
    (hinit := start_all m ρ)
    (QY := fun c s => Ends m c s ∧ s.sem (barCell c) = 0)
    (hfin := finish m)
    (hQ := fun s h hs => ⟨fun c => (h c).1, sem_eq_zero hs fun c sm hsm => by
      obtain rfl := unscoped_sem sm hsm
      exact (h c).2⟩)

end Cert.KernelIdeal.Sum

end
-- ==== Proof.Frames.lean ====
/-
  The frames: the kernel, as printed and as idealized, ends with its arguments as they were and every counter at zero.
  The two programs are one text, so both follow from the one run of `Main.lean`, read at two instances of the float values.
-/
module

public import proofs.«01_k».proof.Proof.Main
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.SL.Sem

theorem frame_ideal : Cert.quiescent_KernelIdeal := fun m g _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Sum.run_main (F := Ideal) m g)

section
variable {F : FTy → Type} [FloatOps F]

set_option maxRecDepth 65536 in
set_option maxHeartbeats 4000000 in
/-- The kernel's body is the same in the two programs. -/
theorem bodies_same : Cert.Kernel.defs₀ (F := F) = Cert.KernelIdeal.defs₀ (F := F) := by
  unfold Cert.Kernel.defs₀ Cert.KernelIdeal.defs₀
  refine congrArg Defs.onTc ?_
  funext l
  match l with
  | 0 => funext x; rfl

theorem defs_same : Cert.Kernel.defs (F := F) = Cert.KernelIdeal.defs (F := F) := by
  unfold Cert.Kernel.defs Cert.KernelIdeal.defs
  rw [bodies_same]
  rfl

theorem main_same : Cert.Kernel.main (F := F) = Cert.KernelIdeal.main (F := F) := rfl

end

theorem frame_kernel : Cert.quiescent_Kernel := fun m g _ => by
  rw [defs_same, main_same]
  exact (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Sum.run_main (F := Bits) m g)

/-- The reference has no counter. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof

end
-- ==== Proof.Plain.lean ====
/-
  Masked attention with its output projection, in plain sums over the extended reals. Both programs are read as these.
-/
module

public import Idealize.ShloMosaic.Lib.Pointwise

@[expose] public section

noncomputable section

namespace Cert.Attn

open Idealize.ShloMosaic

/-- Query position `i` may look at key position `j`: they lie in one block of 64, or in blocks congruent modulo 4. -/
def allowed (i j : Fin 128) : BitVec 1 :=
  BitVec.ofBool (decide (i.val / 64 = j.val / 64 ∨ j.val / 64 % 4 = i.val / 64 % 4))

/-- The score of a query at position `i` against a key at position `j`: their product over 8, or the large negative number. -/
def score (q k : Fin 64 → EReal) (i j : Fin 128) : EReal :=
  Scalar.select (allowed i j) ((∑ d, q d * k d) * Ideal.ofBits .f32 0x3E000000#32) (Ideal.ofBits .f32 0xCE6E6B28#32)

/-- The largest of a row of scores. -/
def top (s : Fin 128 → EReal) : EReal := (Finset.univ : Finset (Fin 128)).fold max (Ideal.ofBits .f32 0xFF800000#32) s

/-- A row of scores turned into weights. -/
def weight (s : Fin 128 → EReal) (j : Fin 128) : EReal :=
  Ideal.div (Ideal.exp (s j - top s)) (∑ l, Ideal.exp (s l - top s))

/-- One head: queries, keys and values at 128 positions of 64 coordinates each; coordinate `d` of the context at position `i`. -/
def head (q k v : Fin 128 → Fin 64 → EReal) (i : Fin 128) (d : Fin 64) : EReal :=
  ∑ j, weight (fun l => score (q i) (k l) i l) j * v j d

/-- The queries of one head: positions by model coordinates, times model coordinates by head coordinates. -/
def query (x : Fin 128 → Fin 512 → EReal) (w : Fin 512 → Fin 64 → EReal) (i : Fin 128) (d : Fin 64) : EReal :=
  ∑ e, x i e * w e d

end Cert.Attn
-- ==== Proof.Values.lean ====
/-
  What the kernel computes, element by element over the extended reals: the mask, one head, a device's summand, and the
  sums the exchanges build up.
-/
module

public import proofs.«01_k».proof.Proof.Plain
public import proofs.«01_k».proof.Proof.Shares

@[expose] public section

noncomputable section

namespace Cert.KernelIdeal.Sum

open Cert.KernelIdeal Cert.KernelIdeal.Gen
open Idealize.ShloMosaic Idealize.ShloMosaic.TcCoe

/-! ## The mask -/

theorem queryBlock_apply (i j : Fin 128) :
    k0_pay5 (iota .tc S128x128 32 [0] iota_S128x128_d0_w32) 64#32 k0_pay3 k0_pay4 0#32 (ix2 i j) = BitVec.ofNat 32 (i.val / 64) := by
  pointwise [k0_pay5, k0_pay3, k0_pay4]
  revert i
  decide +kernel

theorem keyBlock_apply (i j : Fin 128) :
    k0_pay6 (iota .tc S128x128 32 [1] iota_S128x128_d1_w32) (ix2 i j) = BitVec.ofNat 32 (j.val / 64) := by
  pointwise [k0_pay6]
  revert j
  decide +kernel

theorem maskV_apply (i j : Fin 128) : maskV (ix2 i j) = Attn.allowed i j := by
  pointwise [maskV, k0_pay8, k0_pay7]
  rw [queryBlock_apply, keyBlock_apply]
  unfold Attn.allowed
  revert i j
  decide +kernel

/-! ## One head -/

variable (h : Fin 4) (q : FVec Ideal S128x256 .bf16) (k v : Vec Ideal S1x1x128x64 .bf16)

theorem scoreV_apply (i j : Fin 128) : scoreV h q k (ix2 i j)
    = Attn.score (fun d => q (ix2 i ⟨64 * h.val + d.val, by omega⟩)) (fun d => k (ix4 0 0 j d)) i j := by
  pointwise [scoreV]
  rw [maskV_apply]
  rfl

theorem expV_apply (s : FVec Ideal S128x128 .f32) (i j : Fin 128) :
    expV s (ix2 i j) = Ideal.exp (s (ix2 i j) - Attn.top fun l => s (ix2 i l)) := by
  pointwise [expV]
  rfl

theorem softV_apply (s : FVec Ideal S128x128 .f32) (i j : Fin 128) :
    softV s (ix2 i j) = Attn.weight (fun l => s (ix2 i l)) j := by
  pointwise [softV]
  simp only [expV_apply]
  rfl

theorem headV_apply (z : Fin 1) (i : Fin 128) (d : Fin 64) : headV h q k v (ix3 z i d)
    = Attn.head (fun i d => q (ix2 i ⟨64 * h.val + d.val, by omega⟩)) (fun j d => k (ix4 0 0 j d)) (fun j d => v (ix4 0 0 j d)) i d := by
  pointwise [headV]
  simp only [softV_apply, scoreV_apply]
  rfl

theorem qV_apply (wq : Vec Ideal S512x256 .bf16) (x : Vec Ideal S1x128x512 .bf16) (i : Fin 128) (n : Fin 256) :
    qV wq x (ix2 i n) = ∑ e, x (ix3 0 i e) * wq (ix2 e n) := by
  pointwise [qV]

theorem projV_apply (wo : Vec Ideal S256x512 .bf16) (ctx : Vec Ideal S1x128x256 .bf16) (i : Fin 128) (n : Fin 512) :
    projV wo ctx (ix2 i n) = ∑ y, ctx (ix3 0 i y) * wo (ix2 y n) := by
  pointwise [projV]

theorem plusV_apply (a r : FVec Ideal S128x512 .f32) (i : Fin 128) (n : Fin 512) :
    plusV (rowV a) (packV r) (ix2 i n) = a (ix2 i n) + r (ix2 i n) := by
  pointwise [plusV, rowV, packV]

theorem outV_apply (a r : FVec Ideal S128x512 .f32) (z : Fin 1) (i : Fin 128) (n : Fin 512) :
    outV (rowV a) (packV r) (ix3 z i n) = a (ix2 i n) + r (ix2 i n) := by
  pointwise [outV, plusV, rowV, packV]

/-! ## A device's summand -/

variable (I : Inp Ideal) (c : Dev nD) (b : Fin 2)

theorem xRow_apply (z : Fin 1) (i : Fin 128) (e : Fin 512) : I.xRow c b (ix3 z i e) = I.x c (ix3 b i e) := by
  show I.x c ((rowR b).emb (ix3 z i e)) = _
  refine congrArg (I.x c) (funext fun a => Fin.ext ?_)
  rw [Rect.emb_apply]
  fin_cases a
  · show b.val + 1 * z.val = b.val; omega
  · show 0 + 1 * i.val = i.val; omega
  · show 0 + 1 * e.val = e.val; omega

theorem kHead_apply (y z : Fin 1) (j : Fin 128) (d : Fin 64) : I.kHead c b h (ix4 y z j d) = I.k c (ix4 b h j d) := by
  show I.k c ((headR b h).emb (ix4 y z j d)) = _
  refine congrArg (I.k c) (funext fun a => Fin.ext ?_)
  rw [Rect.emb_apply]
  fin_cases a
  · show b.val + 1 * y.val = b.val; omega
  · show h.val + 1 * z.val = h.val; omega
  · show 0 + 1 * j.val = j.val; omega
  · show 0 + 1 * d.val = d.val; omega

theorem vHead_apply (y z : Fin 1) (j : Fin 128) (d : Fin 64) : I.vHead c b h (ix4 y z j d) = I.v c (ix4 b h j d) := by
  show I.v c ((headR b h).emb (ix4 y z j d)) = _
  refine congrArg (I.v c) (funext fun a => Fin.ext ?_)
  rw [Rect.emb_apply]
  fin_cases a
  · show b.val + 1 * y.val = b.val; omega
  · show h.val + 1 * z.val = h.val; omega
  · show 0 + 1 * j.val = j.val; omega
  · show 0 + 1 * d.val = d.val; omega

theorem head_apply (z : Fin 1) (i : Fin 128) (d : Fin 64) : I.head c b h (ix3 z i d)
    = Attn.head (Attn.query (fun i e => I.x c (ix3 b i e)) (fun e d => I.wq c (ix2 e ⟨64 * h.val + d.val, by omega⟩)))
        (fun j d => I.k c (ix4 b h j d)) (fun j d => I.v c (ix4 b h j d)) i d := by
  unfold Inp.head
  rw [headV_apply]
  simp only [qV_apply, xRow_apply, kHead_apply, vHead_apply]
  rfl

/-- Column `y` of row `b`'s context on device `c`, at position `i`. -/
def Inp.context (i : Fin 128) (y : Fin 256) : EReal :=
  Attn.head (Attn.query (fun i e => I.x c (ix3 b i e)) (fun e d => I.wq c (ix2 e ⟨64 * (y.val / 64) + d.val, by omega⟩)))
    (fun j d => I.k c (ix4 b ⟨y.val / 64, by omega⟩ j d)) (fun j d => I.v c (ix4 b ⟨y.val / 64, by omega⟩ j d)) i ⟨y.val % 64, by omega⟩

theorem part_apply (i : Fin 128) (n : Fin 512) : I.part c b (ix2 i n) = ∑ y, I.context c b i y * I.wo c (ix2 y n) := by
  unfold Inp.part
  rw [projV_apply]
  exact Finset.sum_congr rfl fun y _ => Ideal.mul_congr (head_apply ⟨y.val / 64, by omega⟩ I c b 0 i ⟨y.val % 64, by omega⟩) rfl

/-! ## The sum over the devices -/

/-- The devices whose summands row `b` of device `c`'s accumulator holds after `n` phases. -/
def gathered (b : Fin 2) : ℕ → Dev nD → List (Dev nD)
  | 0, c => [c]
  | n + 1, c => gathered b n c ++ gathered b n (peer (Fin.ofNat 4 n) b c)

/-- After four phases every device is in, once. -/
theorem gathered_all (b : Fin 2) (c : Dev nD) : (gathered b 4 c).Perm (List.finRange 16) := by
  revert b c
  decide +kernel

theorem acc_apply (n : ℕ) (c : Dev nD) (i : Fin 128) (l : Fin 512) :
    I.acc n c b (ix2 i l) = ((gathered b n c).map fun d => I.part d b (ix2 i l)).sum := by
  induction n generalizing c with
  | zero => simp [Inp.acc, gathered]
  | succ n ih =>
    show plusV (rowV (I.acc n c b)) (packV (I.acc n (peer (Fin.ofNat 4 n) b c) b)) (ix2 i l) = _
    rw [plusV_apply, ih, ih]
    simp [gathered]

/-- Row `b` of the result, on any device: the sum of the devices' summands. -/
theorem outRow_apply (z : Fin 1) (i : Fin 128) (l : Fin 512) :
    I.outRow c b (ix3 z i l) = ∑ d : Fin 16, I.part d b (ix2 i l) := by
  show outV (rowV (I.acc 3 c b)) (packV (I.acc 3 (peer 3 b c) b)) (ix3 z i l) = _
  rw [outV_apply, ← plusV_apply]
  show I.acc 4 c b (ix2 i l) = _
  rw [acc_apply, ((gathered_all b c).map _).sum_eq]
  exact (Fin.sum_univ_def _).symm

theorem out_apply (i : Fin 128) (l : Fin 512) :
    I.out c (ix3 b i l) = ∑ d : Fin 16, ∑ y, I.context d b i y * I.wo d (ix2 y l) := by
  show I.outRow c b (ix3 0 i l) = _
  rw [outRow_apply]
  exact Finset.sum_congr rfl fun d _ => part_apply I d b i l

end Cert.KernelIdeal.Sum
-- ==== Proof.Reference.lean ====
/-
  The reference's result, element by element: its stages named, then read at an index.
-/
module

public import proofs.«01_k».proof.Proof.Plain
public import proofs.«01_k».proof.Proof.Gen.ReferenceIdeal.Run
public import Idealize.ShloMosaic.Lib.Routing.OpsOrder

@[expose] public section

noncomputable section

namespace Cert.ReferenceIdeal.Read

open Cert.ReferenceIdeal Cert.ReferenceIdeal.Gen
open Idealize.ShloMosaic Idealize.ShloMosaic.TcCoe

/-! ## The mask -/

/-- The block of 64 each position lies in: the quotient, less one where the signs differ and the division leaves a rest. -/
def blocks : IVec S128 32 :=
  select
    (andi
      (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- The query positions' blocks, down. -/
def down : IVec S128x1 32 := broadcastInDim S128x1 ![0] bcast_S128_S128x1_0 blocks
/-- The key positions' blocks, across. -/
def across : IVec S1x128 32 := broadcastInDim S1x128 ![1] bcast_S128_S1x128_1 blocks

/-- The divisor 4, guarded against 0. -/
def four : IVec S_ 32 := select (cmpi .eq (id (constantI S_ 32 4#32)) (constantI S_ 32 0#32)) (constantI S_ 32 1#32) (id (constantI S_ 32 4#32))

/-- The key positions' blocks modulo 4. -/
def acrossMod : IVec S1x128 32 :=
  select
    (andi
      (cmpi .ne
        (cmpi .slt (Host.remsi across (broadcastInDim S1x128 ![] bcast_S_S1x128 four)) (broadcastInDim S1x128 ![] bcast_S_S1x128 (constantI S_ 32 0#32)))
        (broadcastInDim S1x128 ![] bcast_S_S1x128 (cmpi .slt four (constantI S_ 32 0#32))))
      (cmpi .ne (Host.remsi across (broadcastInDim S1x128 ![] bcast_S_S1x128 four)) (broadcastInDim S1x128 ![] bcast_S_S1x128 (constantI S_ 32 0#32))))
    (addi (Host.remsi across (broadcastInDim S1x128 ![] bcast_S_S1x128 four)) (broadcastInDim S1x128 ![] bcast_S_S1x128 four))
    (Host.remsi across (broadcastInDim S1x128 ![] bcast_S_S1x128 four))

/-- The query positions' blocks modulo 4. -/
def downMod : IVec S128x1 32 :=
  select
    (andi
      (cmpi .ne
        (cmpi .slt (Host.remsi down (broadcastInDim S128x1 ![] bcast_S_S128x1 four)) (broadcastInDim S128x1 ![] bcast_S_S128x1 (constantI S_ 32 0#32)))
        (broadcastInDim S128x1 ![] bcast_S_S128x1 (cmpi .slt four (constantI S_ 32 0#32))))
      (cmpi .ne (Host.remsi down (broadcastInDim S128x1 ![] bcast_S_S128x1 four)) (broadcastInDim S128x1 ![] bcast_S_S128x1 (constantI S_ 32 0#32))))
    (addi (Host.remsi down (broadcastInDim S128x1 ![] bcast_S_S128x1 four)) (broadcastInDim S128x1 ![] bcast_S_S128x1 four))
    (Host.remsi down (broadcastInDim S128x1 ![] bcast_S_S128x1 four))

/-- Who may look at whom. -/
def mask : IVec S128x128 1 :=
  ori
    (cmpi .eq (broadcastInDim S128x128 ![0, 1] bcast_S128x1_S128x128_0_1 down) (broadcastInDim S128x128 ![0, 1] bcast_S1x128_S128x128_0_1 across))
    (cmpi .eq (broadcastInDim S128x128 ![0, 1] bcast_S1x128_S128x128_0_1 acrossMod) (broadcastInDim S128x128 ![0, 1] bcast_S128x1_S128x128_0_1 downMod))

/-- Which positions may look at any. -/
def keep : IVec S128 1 := Host.reduce IntOp.ori mask (constantI S_ 1 0#1) reducesTo_S128x128_S128_d1 h_S_

theorem blocks_apply (i : Fin 128) : blocks (ix1 i) = BitVec.ofNat 32 (i.val / 64) := by
  pointwise [blocks]
  revert i
  decide +kernel

theorem down_apply (i : Fin 128) (z : Fin 1) : down (ix2 i z) = BitVec.ofNat 32 (i.val / 64) := by
  pointwise [down]; exact blocks_apply i
theorem across_apply (i : Fin 128) (z : Fin 1) : across (ix2 z i) = BitVec.ofNat 32 (i.val / 64) := by
  pointwise [across]; exact blocks_apply i

theorem acrossMod_apply (i : Fin 128) (z : Fin 1) : acrossMod (ix2 z i) = BitVec.ofNat 32 (i.val / 64 % 4) := by
  pointwise [acrossMod, four]
  rw [across_apply]
  revert i
  decide +kernel

theorem downMod_apply (i : Fin 128) (z : Fin 1) : downMod (ix2 i z) = BitVec.ofNat 32 (i.val / 64 % 4) := by
  pointwise [downMod, four]
  rw [down_apply]
  revert i
  decide +kernel

theorem mask_apply (i j : Fin 128) : mask (ix2 i j) = Attn.allowed i j := by
  pointwise [mask]
  rw [down_apply, across_apply, acrossMod_apply, downMod_apply]
  unfold Attn.allowed
  have h : ∀ a b : Fin 2, IntOp.ori (IntOp.cmpi .eq (BitVec.ofNat 32 a.val) (BitVec.ofNat 32 b.val))
      (IntOp.cmpi .eq (BitVec.ofNat 32 (b.val % 4)) (BitVec.ofNat 32 (a.val % 4)))
      = BitVec.ofBool (decide (a.val = b.val ∨ b.val % 4 = a.val % 4)) := by decide
  exact h ⟨i.val / 64, by omega⟩ ⟨j.val / 64, by omega⟩

theorem allowed_self (i : Fin 128) : Attn.allowed i i = 1#1 := by unfold Attn.allowed; simp

/-- Every position may look at itself, so every one may look at some. -/
theorem keep_apply (i : Fin 128) : keep (ix1 i) = 1#1 := by
  pointwise [keep]
  rw [Routing.fold_ori]
  exact ⟨i, Finset.mem_univ _, by rw [mask_apply]; exact allowed_self i⟩

/-! ## The stages -/

variable (x : FVec Ideal S2x128x512 .bf16) (wq : FVec Ideal S512x4096 .bf16) (k v : FVec Ideal S2x128x64x64 .bf16) (wo : FVec Ideal S4096x512 .bf16)

/-- The masked scores. -/
def scores : FVec Ideal S2x64x128x128 .f32 :=
  select (broadcastInDim S2x64x128x128 ![0, 1, 2, 3] bcast_S1x1x128x128_S2x64x128x128_0_1_2_3
      (broadcastInDim S1x1x128x128 ![2, 3] bcast_S128x128_S1x1x128x128_2_3 mask))
    (mulf
      (Host.dotGeneral dot_S2x128x64x64_S2x128x64x64_S2x64x128x128_3_3_1_1_02_02 none
        (shapeCast S2x128x64x64 (Host.dotGeneral dot_S2x128x512_S512x4096_S2x128x4096_2_0_01_1_n_n none
          (extf .f32 x bitsLt_bf16_f32) (extf .f32 wq bitsLt_bf16_f32)) shapeCasts_S2x128x4096_S2x128x64x64)
        (extf .f32 k bitsLt_bf16_f32))
      (broadcastInDim S2x64x128x128 ![] bcast_S_S2x64x128x128 (constant S_ .f32 0x3E000000#32)))
    (broadcastInDim S2x64x128x128 ![] bcast_S_S2x64x128x128 (id (constant S_ .f32 0xCE6E6B28#32)))

/-- The exponentials of the scores less their row's largest. -/
def exps (s : FVec Ideal S2x64x128x128 .f32) : FVec Ideal S2x64x128x128 .f32 :=
  Host.exp (subf s (broadcastInDim S2x64x128x128 ![0, 1, 2, 3] bcast_S2x64x128x1_S2x64x128x128_0_1_2_3
    (broadcastInDim S2x64x128x1 ![0, 1, 2] bcast_S2x64x128_S2x64x128x1_0_1_2
      (Host.reduce FloatOps.maximumf s (constant S_ .f32 0xFF800000#32) reducesTo_S2x64x128x128_S2x64x128_d3 h_S_))))

/-- The weights: zero in a row that may look at none. -/
def weights (e : FVec Ideal S2x64x128x128 .f32) : FVec Ideal S2x64x128x128 .f32 :=
  select (broadcastInDim S2x64x128x128 ![0, 1, 2, 3] bcast_S1x1x128x1_S2x64x128x128_0_1_2_3
      (broadcastInDim S1x1x128x1 ![2] bcast_S128_S1x1x128x1_2 keep))
    (Host.divf e (broadcastInDim S2x64x128x128 ![0, 1, 2, 3] bcast_S2x64x128x1_S2x64x128x128_0_1_2_3
      (select (broadcastInDim S2x64x128x1 ![0, 1, 2, 3] bcast_S1x1x128x1_S2x64x128x1_0_1_2_3
          (broadcastInDim S1x1x128x1 ![2] bcast_S128_S1x1x128x1_2 keep))
        (broadcastInDim S2x64x128x1 ![0, 1, 2] bcast_S2x64x128_S2x64x128x1_0_1_2
          (Host.reduceAdd e (constant S_ .f32 0x00000000#32) reducesTo_S2x64x128x128_S2x64x128_d3 h_S_))
        (broadcastInDim S2x64x128x1 ![] bcast_S_S2x64x128x1 (id (constant S_ .f32 0x3F800000#32))))))
    (broadcastInDim S2x64x128x128 ![] bcast_S_S2x64x128x128 (id (constant S_ .f32 0x00000000#32)))

/-- The weighted values, projected. -/
def projected (w : FVec Ideal S2x64x128x128 .f32) : FVec Ideal S2x128x512 .bf16 :=
  truncf .bf16 (Host.dotGeneral dot_S2x128x4096_S4096x512_S2x128x512_2_0_01_1_n_n none
    (shapeCast S2x128x4096 (transpose S2x128x64x64 [0, 3, 1, 2]
      (Host.dotGeneral dot_S2x128x64x64_S2x64x128x128_S2x64x64x128_1_3_3_2_02_01 none (extf .f32 v bitsLt_bf16_f32) w)
      transposes_S2x64x64x128_S2x128x64x64_0_3_1_2) shapeCasts_S2x128x64x64_S2x128x4096)
    (extf .f32 wo bitsLt_bf16_f32)) bitsLt_bf16_f32

/-- The whole reference. -/
def result : FVec Ideal S2x128x512 .bf16 := projected v wo (weights (exps (scores x wq k)))

theorem scores_apply (b : Fin 2) (h : Fin 64) (i j : Fin 128) : scores x wq k (ix4 b h i j)
    = Attn.score (Attn.query (fun i e => x (ix3 b i e)) (fun e d => wq (ix2 e ⟨h.val * 64 + d.val, by omega⟩)) i)
        (fun d => k (ix4 b j h d)) i j := by
  pointwise [scores]
  rw [mask_apply]
  rfl

theorem exps_apply (s : FVec Ideal S2x64x128x128 .f32) (b : Fin 2) (h : Fin 64) (i j : Fin 128) : exps s (ix4 b h i j)
    = Ideal.exp (s (ix4 b h i j) - Attn.top fun l => s (ix4 b h i l)) := by
  pointwise [exps]
  rfl

theorem weights_apply (e : FVec Ideal S2x64x128x128 .f32) (b : Fin 2) (h : Fin 64) (i j : Fin 128) : weights e (ix4 b h i j)
    = Ideal.div (e (ix4 b h i j)) (∑ l, e (ix4 b h i l)) := by
  pointwise [weights]
  simp only [keep_apply]
  pointwise

theorem projected_apply (w : FVec Ideal S2x64x128x128 .f32) (b : Fin 2) (i : Fin 128) (n : Fin 512) : projected v wo w (ix3 b i n)
    = ∑ y : Fin 4096, (∑ j : Fin 128, w (ix4 b ⟨y.val / 64, by omega⟩ i j) * v (ix4 b j ⟨y.val / 64, by omega⟩ ⟨y.val % 64, by omega⟩)) * wo (ix2 y n) := by
  pointwise! [projected]

/-- The reference at an element: over the 4096 context columns, the head's context times the projection's entry. -/
theorem result_apply (b : Fin 2) (i : Fin 128) (n : Fin 512) : result x wq k v wo (ix3 b i n)
    = ∑ y : Fin 4096, Attn.head (Attn.query (fun i e => x (ix3 b i e)) (fun e d => wq (ix2 e ⟨y.val / 64 * 64 + d.val, by omega⟩)))
        (fun j d => k (ix4 b j ⟨y.val / 64, by omega⟩ d)) (fun j d => v (ix4 b j ⟨y.val / 64, by omega⟩ d)) i ⟨y.val % 64, by omega⟩
        * wo (ix2 y n) := by
  unfold result
  rw [projected_apply]
  refine Finset.sum_congr rfl fun y _ => Ideal.mul_congr (Finset.sum_congr rfl fun j _ => Ideal.mul_congr ?_ rfl) rfl
  rw [weights_apply]
  simp only [exps_apply, scores_apply]
  rfl

theorem main_result (m : (ℓ : Loc nD τ sig) → Buf (Elt Ideal) ℓ) (c : Dev nD) : Value.res_main_v45 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.ReferenceIdeal.Read
-- ==== Proof.Agree.lean ====
/-
  The kernel's result is the reference's: the devices' blocks are read in the whole arrays, and the devices' sums of 256
  context columns each are the reference's one sum of 4096.
-/
module

public import proofs.«01_k».proof.Proof.Values
public import proofs.«01_k».proof.Proof.Reference
public import proofs.«01_k».proof.Proof.Main
public import Idealize.ShloMosaic.Lib.Layout

@[expose] public section

noncomputable section

namespace Cert.KernelIdeal.Sum

open Cert.KernelIdeal Cert.KernelIdeal.Gen
open Idealize.ShloMosaic Idealize.ShloMosaic.TcCoe

/-- Where device `c`'s heads begin, as the program finds it from the device's number. -/
def firstHead (c : Dev nD) : IVec S_ 32 :=
  muli (id (Host.remui (Host.divui (constantI S_ 32 (Dev.word c)) (constantI S_ 32 1#32)) (constantI S_ 32 16#32))) (constantI S_ 32 4#32)

/-- The same, had it been negative, brought into range. -/
def headStart (c : Dev nD) : IVec S_ 32 :=
  select (cmpi .slt (firstHead c) (constantI S_ 32 0#32)) (addi (firstHead c) (constantI S_ 32 64#32)) (firstHead c)

/-- The four heads of an array of 64 that device `c` takes, heads before positions. -/
def cut (c : Dev nD) (a : FVec Ideal S2x128x64x64 .bf16) : FVec Ideal S2x4x128x64 .bf16 :=
  transpose S2x4x128x64 [0, 2, 1, 3]
    (Host.dynamicSlice S2x128x4x64 a ![0, 0, (headStart c (Shape.Idx.first h_S_)).toInt, 0] sliceFits_S2x128x64x64_S2x128x4x64)
    transposes_S2x128x4x64_S2x4x128x64_0_2_1_3

theorem headStart_eq (c : Dev nD) : (headStart c (Shape.Idx.first h_S_)).toInt = 4 * (c.val : ℤ) := by
  pointwise [headStart, firstHead]
  revert c
  decide +kernel

theorem cut_apply (c : Dev nD) (a : FVec Ideal S2x128x64x64 .bf16) (b : Fin 2) (h : Fin 4) (j : Fin 128) (d : Fin 64) :
    cut c a (ix4 b h j d) = a (ix4 b j ⟨4 * c.val + h.val, by have hc : c.val < 16 := c.isLt; omega⟩ d) := by
  have hc : c.val < 16 := c.isLt
  unfold cut
  rw [headStart_eq]
  pointwise
  refine congrArg a (funext fun x => Fin.ext ?_)
  fin_cases x <;> simp [Host.clampedStart] <;> omega

variable (m : (ℓ : Loc nD τ sig) → Buf (Elt Ideal) ℓ) (c : Dev nD)

theorem keys_eq : (inp m).k c = cut c (m ((c.tc : Thread nD τ).loc main_arg2)) := by
  show V1 m c main_v15 = _
  unfold V1
  after_results_simp
  unfold cut
  refine congrArg (fun s => transpose S2x4x128x64 [0, 2, 1, 3]
    (Host.dynamicSlice S2x128x4x64 (m ((c.tc : Thread nD τ).loc main_arg2)) s sliceFits_S2x128x64x64_S2x128x4x64)
    transposes_S2x128x4x64_S2x4x128x64_0_2_1_3) (funext fun x => ?_)
  fin_cases x <;> after_results_simp <;> rfl

theorem values_eq : (inp m).v c = cut c (m ((c.tc : Thread nD τ).loc main_arg3)) := by
  show V1 m c main_v16 = _
  unfold V1
  after_results_simp
  unfold cut
  refine congrArg (fun s => transpose S2x4x128x64 [0, 2, 1, 3]
    (Host.dynamicSlice S2x128x4x64 (m ((c.tc : Thread nD τ).loc main_arg3)) s sliceFits_S2x128x64x64_S2x128x4x64)
    transposes_S2x128x4x64_S2x4x128x64_0_2_1_3) (funext fun x => ?_)
  fin_cases x <;> after_results_simp <;> rfl

/-! ## The whole arrays -/

section Whole

variable (x : FVec Ideal S2x128x512 .bf16) (wq : FVec Ideal ReferenceIdeal.S512x4096 .bf16)
  (k v : FVec Ideal ReferenceIdeal.S2x128x64x64 .bf16) (wo : FVec Ideal ReferenceIdeal.S4096x512 .bf16)

/-- The devices' inputs are the whole arrays': `x` everywhere, each device its 256 columns of the query projection, its four
    heads' keys and values, its 256 rows of the output projection. -/
structure Inp.Of (I : Inp Ideal) : Prop where
  x_eq (c : Dev nD) (b : Fin 2) (i : Fin 128) (e : Fin 512) : I.x c (ix3 b i e) = x (ix3 b i e)
  wq_eq (c : Fin 16) (e : Fin 512) (n : Fin 256) : I.wq c (ix2 e n) = wq (ix2 e ⟨256 * c.val + n.val, by omega⟩)
  k_eq (c : Fin 16) (b : Fin 2) (h : Fin 4) (j : Fin 128) (d : Fin 64) : I.k c (ix4 b h j d) = k (ix4 b j ⟨4 * c.val + h.val, by omega⟩ d)
  v_eq (c : Fin 16) (b : Fin 2) (h : Fin 4) (j : Fin 128) (d : Fin 64) : I.v c (ix4 b h j d) = v (ix4 b j ⟨4 * c.val + h.val, by omega⟩ d)
  wo_eq (c : Fin 16) (n : Fin 256) (l : Fin 512) : I.wo c (ix2 n l) = wo (ix2 ⟨256 * c.val + n.val, by omega⟩ l)

/-- One of the reference's 4096 summands. -/
def summand (b : Fin 2) (i : Fin 128) (l : Fin 512) (y : Fin 4096) : EReal :=
  Attn.head (Attn.query (fun i e => x (ix3 b i e)) (fun e d => wq (ix2 e ⟨y.val / 64 * 64 + d.val, by omega⟩)))
    (fun j d => k (ix4 b j ⟨y.val / 64, by omega⟩ d)) (fun j d => v (ix4 b j ⟨y.val / 64, by omega⟩ d)) i ⟨y.val % 64, by omega⟩
    * wo (ix2 y l)

/-- A sum over 4096 in 16 stretches of 256. -/
theorem sum_stretches (f : Fin 4096 → EReal) : ∑ y, f y = ∑ c : Fin 16, ∑ n : Fin 256, f ⟨256 * c.val + n.val, by omega⟩ := by
  rw [← (finProdFinEquiv (m := 16) (n := 256)).sum_comp f, Fintype.sum_prod_type]
  exact Finset.sum_congr rfl fun c _ => Finset.sum_congr rfl fun n _ => congrArg f (Fin.ext (Nat.add_comm _ _))

variable {x wq k v wo} {I : Inp Ideal} (hI : I.Of x wq k v wo)
include hI

/-- A device's summand at one of its context columns is the reference's at that column's place among all. -/
theorem summand_eq (c : Fin 16) (b : Fin 2) (i : Fin 128) (l : Fin 512) (n : Fin 256) :
    I.context c b i n * I.wo c (ix2 n l) = summand x wq k v wo b i l ⟨256 * c.val + n.val, by omega⟩ := by
  have hq : 4 * c.val + n.val / 64 = (256 * c.val + n.val) / 64 := by omega
  have hr : n.val % 64 = (256 * c.val + n.val) % 64 := by omega
  have hw : ∀ d : ℕ, 256 * c.val + (64 * (n.val / 64) + d) = (256 * c.val + n.val) / 64 * 64 + d := fun d => by omega
  unfold Inp.context summand
  simp only [hI.x_eq, hI.wq_eq, hI.k_eq, hI.v_eq, hI.wo_eq, hq, hr, hw]

theorem out_eq (c : Dev nD) : I.out c = ReferenceIdeal.Read.result x wq k v wo := by
  funext i
  rw [eq_ix3 i]
  refine (out_apply I c (i 0) (i 1) (i 2)).trans (Eq.trans ?_ (ReferenceIdeal.Read.result_apply x wq k v wo (i 0) (i 1) (i 2)).symm)
  refine Eq.trans ?_ (sum_stretches (summand x wq k v wo (i 0) (i 1) (i 2))).symm
  exact Finset.sum_congr rfl fun d _ => Finset.sum_congr rfl fun n _ => summand_eq hI d (i 0) (i 1) (i 2) n

end Whole

/-! ## From the program's arguments -/

section Arguments

variable (m' : (ℓ : Loc ReferenceIdeal.nD ReferenceIdeal.τ ReferenceIdeal.sig) → Buf (Elt Ideal) ℓ)

/-- An argument of the reference. -/
abbrev whole (r : Ref ReferenceIdeal.sig .tc) := m' (((0 : Dev ReferenceIdeal.nD).tc : Thread ReferenceIdeal.nD ReferenceIdeal.τ).loc r)

theorem inp_of
    (h : ∀ c : Dev nD, m ((c.tc : Thread nD τ).loc main_arg0) = whole m' ReferenceIdeal.main_arg0
      ∧ m ((c.tc : Thread nD τ).loc main_arg1) = Layout.block ⟨2, ![512, 256]⟩ ⟨2, ![512, 4096]⟩ 1 16 c (whole m' ReferenceIdeal.main_arg1)
      ∧ m ((c.tc : Thread nD τ).loc main_arg2) = whole m' ReferenceIdeal.main_arg2
      ∧ m ((c.tc : Thread nD τ).loc main_arg3) = whole m' ReferenceIdeal.main_arg3
      ∧ m ((c.tc : Thread nD τ).loc main_arg4) = Layout.block ⟨2, ![256, 512]⟩ ⟨2, ![4096, 512]⟩ 0 16 c (whole m' ReferenceIdeal.main_arg4)) :
    (inp m).Of (whole m' ReferenceIdeal.main_arg0) (whole m' ReferenceIdeal.main_arg1) (whole m' ReferenceIdeal.main_arg2)
      (whole m' ReferenceIdeal.main_arg3) (whole m' ReferenceIdeal.main_arg4) where
  x_eq c b i e := by
    show V1 m c main_arg0 (ix3 b i e) = _
    rw [V1_of m c main_arg0 (by decide)]
    exact congrFun (h c).1 _
  wq_eq c e n := by
    show V1 m c main_arg1 (ix2 e n) = _
    rw [V1_of m c main_arg1 (by decide)]
    refine (congrFun (h c).2.1 _).trans ?_
    rw [Layout.block_apply]
    refine congrArg (whole m' ReferenceIdeal.main_arg1) (funext fun a => Fin.ext ?_)
    fin_cases a
    · rfl
    · show c.val * 256 + n.val = 256 * c.val + n.val; omega
  k_eq c b h' j d := by
    rw [keys_eq]
    refine (cut_apply c _ b h' j d).trans ?_
    exact congrFun (h c).2.2.1 _
  v_eq c b h' j d := by
    rw [values_eq]
    refine (cut_apply c _ b h' j d).trans ?_
    exact congrFun (h c).2.2.2.1 _
  wo_eq c n l := by
    show V1 m c main_arg4 (ix2 n l) = _
    rw [V1_of m c main_arg4 (by decide)]
    refine (congrFun (h c).2.2.2.2 _).trans ?_
    rw [Layout.block_apply]
    refine congrArg (whole m' ReferenceIdeal.main_arg4) (funext fun a => Fin.ext ?_)
    fin_cases a
    · show c.val * 256 + n.val = 256 * c.val + n.val; omega
    · rfl

end Arguments

end Cert.KernelIdeal.Sum
-- ==== Proof.Algebraic.lean ====
/-
  The value: over the extended reals every device ends with the reference's result.
-/
module

public import proofs.«01_k».proof.Proof.Agree
public import proofs.«01_k».proof.Defs

@[expose] public section

noncomputable section

namespace Cert.Proof

open Idealize.ShloMosaic Idealize.SL.Sem

theorem algebraic : Cert.algebraic_KernelIdeal_ReferenceIdeal := fun m g m' g' _ h =>
  ⟨Cert.ReferenceIdeal.Value.res_main_v45 m' 0,
    (θ_run Cert.KernelIdeal.defs _ _).mono
      (fun _ h' c => ⟨(h'.1 c).2.2.2.2.2.trans
          ((Cert.KernelIdeal.Sum.out_eq (Cert.KernelIdeal.Sum.inp_of m m' h) c).trans (Cert.ReferenceIdeal.Read.main_result m' 0).symm),
        (h'.1 c).1, (h'.1 c).2.1, (h'.1 c).2.2.1, (h'.1 c).2.2.2.1, (h'.1 c).2.2.2.2.1⟩)
      (Cert.KernelIdeal.Sum.run_main (F := Ideal) m g),
    (θ_run Cert.ReferenceIdeal.defs _ _).mono (fun _ h' => h' 0) (Cert.ReferenceIdeal.Value.run (F := Ideal) m' g')⟩

end Cert.Proof

end
-- ==== Proof.lean ====
/-
  The certificate: the three frames, `preserves` (no operation is replaced, so it says nothing) and the value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
